-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![1536, 1536]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![768, 1536]⟩ ⟨2, ![1536, 3072]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1536, 1536]⟩ ⟨2, ![1536, 3072]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S8 : Shape := ⟨1, ![8]⟩
abbrev S_ : Shape := ⟨0, ![]⟩
abbrev S1 : Shape := ⟨1, ![1]⟩
abbrev S192x768 : Shape := ⟨2, ![192, 768]⟩
abbrev S192x1536 : Shape := ⟨2, ![192, 1536]⟩

abbrev nBuf : Space → Nat
  | .hbm => 3
  | .vmem => 6
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S768x1536, .bf16⟩
  | .local _ .vmem, ⟨3, _⟩ => ⟨S1536x1536, .bf16⟩
  | .local _ .vmem, ⟨4, _⟩ => ⟨S1536x1536, .bf16⟩
  | .local _ .vmem, ⟨5, _⟩ => ⟨S1536x1536, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_52 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_51 : BitVec 32 := 2#32
  let v61 : BitVec 32 := Scalar.muli v6 c2_i32_51
  let v62 : BitVec 32 := Scalar.addi c0_i32_52 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v63 : BitVec 32 := Scalar.muli v5 c1_i32_53
  let v64 : BitVec 32 := Scalar.addi v62 v63
  v64.toNat
def k0_dev3 (d0 : Dev nD) : Nat :=
  let c0_i32_72 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_71 : BitVec 32 := 2#32
  let v83 : BitVec 32 := Scalar.muli v6 c2_i32_71
  let v84 : BitVec 32 := Scalar.addi c0_i32_72 v83
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_73 : BitVec 32 := 1#32
  let v85 : BitVec 32 := Scalar.muli v5 c1_i32_73
  let v86 : BitVec 32 := Scalar.addi v84 v85
  v86.toNat
def k0_dev4 (d0 : Dev nD) : Nat :=
  let c0_i32_92 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_91 : BitVec 32 := 2#32
  let v105 : BitVec 32 := Scalar.muli v6 c2_i32_91
  let v106 : BitVec 32 := Scalar.addi c0_i32_92 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v107 : BitVec 32 := Scalar.muli v5 c1_i32_93
  let v108 : BitVec 32 := Scalar.addi v106 v107
  v108.toNat
def k0_dev5 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v127 : BitVec 32 := Scalar.muli v6 c2_i32_111
  let v128 : BitVec 32 := Scalar.addi c0_i32_112 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v129 : BitVec 32 := Scalar.muli v5 c1_i32_113
  let v130 : BitVec 32 := Scalar.addi v128 v129
  v130.toNat
def k0_dev6 (d0 : Dev nD) : Nat :=
  let c0_i32_132 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_131 : BitVec 32 := 2#32
  let v149 : BitVec 32 := Scalar.muli v6 c2_i32_131
  let v150 : BitVec 32 := Scalar.addi c0_i32_132 v149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v151 : BitVec 32 := Scalar.muli v5 c1_i32_133
  let v152 : BitVec 32 := Scalar.addi v150 v151
  v152.toNat
def k0_dev7 (d0 : Dev nD) : Nat :=
  let c0_i32_152 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_151 : BitVec 32 := 2#32
  let v171 : BitVec 32 := Scalar.muli v6 c2_i32_151
  let v172 : BitVec 32 := Scalar.addi c0_i32_152 v171
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_153 : BitVec 32 := 1#32
  let v173 : BitVec 32 := Scalar.muli v5 c1_i32_153
  let v174 : BitVec 32 := Scalar.addi v172 v173
  v174.toNat
def k0_dev8 (d0 : Dev nD) : Nat :=
  let c0_i32_172 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_171 : BitVec 32 := 2#32
  let v193 : BitVec 32 := Scalar.muli v6 c2_i32_171
  let v194 : BitVec 32 := Scalar.addi c0_i32_172 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v195 : BitVec 32 := Scalar.muli v5 c1_i32_173
  let v196 : BitVec 32 := Scalar.addi v194 v195
  v196.toNat
def k0_dev9 (d0 : Dev nD) : Nat :=
  let c0_i32_192 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_191 : BitVec 32 := 2#32
  let v215 : BitVec 32 := Scalar.muli v6 c2_i32_191
  let v216 : BitVec 32 := Scalar.addi c0_i32_192 v215
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_193 : BitVec 32 := 1#32
  let v217 : BitVec 32 := Scalar.muli v5 c1_i32_193
  let v218 : BitVec 32 := Scalar.addi v216 v217
  v218.toNat
-- ==== ReferenceIdeal.lean ====
abbrev S1536x1536 : Shape := ⟨2, ![1536, 1536]⟩
abbrev S1536x3072 : Shape := ⟨2, ![1536, 3072]⟩

abbrev nBuf : Space → Nat
  | .hbm => 3
  | .vmem => 0
  | .smem => 0
  | _ => 0

abbrev bufTy : (tb : Table) → Fin (tcTables nBuf tb) → BufTy
  | .hbm, ⟨0, _⟩ => ⟨S1536x1536, .f32⟩
  | .hbm, ⟨1, _⟩ => ⟨S1536x3072, .f32⟩
  | .hbm, ⟨2, _⟩ => ⟨S1536x3072, .f32⟩
  | _, _ => ⟨S1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

/-!
# The kernel's body as three loops over the eight row chunks

The printed body spells the eight chunks out. Here every chunk's statements are written once, for a
chunk number `i`, and the body is shown to be the loops over `i = 0, …, 7`.
-/

@[expose] public section

namespace Cert.Proof

open Idealize.ShloMosaic
open Idealize.ShloMosaic.TcCoe
open Idealize.SL Idealize.SL.Sem
open Cert.KernelIdeal Cert.KernelIdeal.Gen

set_option maxRecDepth 16384

variable {F : FTy → Type} [FloatOps F]

/-! ## The buffers -/

/-- The device's block of `A`, as the caller passes it. -/
abbrev aH : Memref sig .tc .hbm S1536x768 .f32 := Memref.whole main_arg0
/-- The device's block of `B`, as the caller passes it. -/
abbrev bH : Memref sig .tc .hbm S768x1536 .f32 := Memref.whole main_arg1
/-- The device's result. -/
abbrev oH : Memref sig .tc .hbm S1536x1536 .f32 := Memref.whole main_v1
/-- The scratch copy of the block of `A`. -/
abbrev aV : Memref sig .tc .vmem S1536x768 .f32 := Memref.whole cc0_scratch0
/-- The scratch copy of the block of `B`. -/
abbrev bV : Memref sig .tc .vmem S768x1536 .f32 := Memref.whole cc0_scratch1
/-- The block of `B` in `bf16`. -/
abbrev bfV : Memref sig .tc .vmem S768x1536 .bf16 := Memref.whole cc0_scratch2
/-- The device's own partial product. -/
abbrev pV : Memref sig .tc .vmem S1536x1536 .bf16 := Memref.whole cc0_scratch3
/-- Where the peer's partial product arrives. -/
abbrev cV : Memref sig .tc .vmem S1536x1536 .bf16 := Memref.whole cc0_scratch4
/-- The sum of the two partial products. -/
abbrev oV : Memref sig .tc .vmem S1536x1536 .f32 := Memref.whole cc0_scratch5

/-! ## The chunks -/

set_option backward.proofsInPublic true in
/-- Rows `192 i, …, 192 i + 191` of a block of `A`. -/
abbrev aR (i : Fin 8) : Rect S1536x768 :=
  Rect.unit (s := S1536x768) ![192 * i.val, 0] S192x768.size (by revert i; decide)

set_option backward.proofsInPublic true in
/-- Rows `192 i, …, 192 i + 191` of a product. -/
abbrev rR (i : Fin 8) : Rect S1536x1536 :=
  Rect.unit (s := S1536x1536) ![192 * i.val, 0] S192x1536.size (by revert i; decide)

set_option backward.proofsInPublic true in
/-- The `i`-th of eight semaphores. -/
abbrev semR (i : Fin 8) : Rect S8 := Rect.unit (s := S8) ![i.val] S1.size (by revert i; decide)

/-- The whole of a block of `B`. -/
abbrev bR : Rect S768x1536 := Rect.unit (s := S768x1536) ![0, 0] S768x1536.size inb_S768x1536_S768x1536_0_0

/-- Chunk `i` of the caller's block of `A`. -/
abbrev aHw (i : Fin 8) : Memref sig .tc .hbm S192x768 .f32 := aH.slice (aR i) (fun _ => rfl)
/-- Chunk `i` of the scratch copy of `A`. -/
abbrev aVw (i : Fin 8) : Memref sig .tc .vmem S192x768 .f32 := aV.slice (aR i) (fun _ => rfl)
/-- Chunk `i` of the own partial product. -/
abbrev pVw (i : Fin 8) : Memref sig .tc .vmem S192x1536 .bf16 := pV.slice (rR i) (fun _ => rfl)
/-- Chunk `i` of the place of arrival. -/
abbrev cVw (i : Fin 8) : Memref sig .tc .vmem S192x1536 .bf16 := cV.slice (rR i) (fun _ => rfl)
/-- Chunk `i` of the sum. -/
abbrev oVw (i : Fin 8) : Memref sig .tc .vmem S192x1536 .f32 := oV.slice (rR i) (fun _ => rfl)
/-- Chunk `i` of the result. -/
abbrev oHw (i : Fin 8) : Memref sig .tc .hbm S192x1536 .f32 := oH.slice (rR i) (fun _ => rfl)

/-- The semaphore of the copy in of chunk `i` of `A`. -/
abbrev aS (i : Fin 8) : DmaSem sig := ((cc0_scratch6.slice (semR i)).squeeze S_ squeezes_S1_S_).sem
/-- The semaphore of the copy in of `B`. -/
abbrev bS : DmaSem sig := (cc0_scratch7 : DmaSems sig S_).sem
/-- The semaphore of the copy out of chunk `i`. -/
abbrev oS (i : Fin 8) : DmaSem sig := ((cc0_scratch8.slice (semR i)).squeeze S_ squeezes_S1_S_).sem
/-- The semaphore that says chunk `i` has been read for the peer. -/
abbrev sS (i : Fin 8) : DmaSem sig := ((cc0_scratch9.slice (semR i)).squeeze S_ squeezes_S1_S_).sem
/-- The semaphore that says chunk `i` of the peer's partial product has arrived. -/
abbrev vS (i : Fin 8) : DmaSem sig := ((cc0_scratch10.slice (semR i)).squeeze S_ squeezes_S1_S_).sem
/-- The barrier's semaphore. -/
abbrev barr : Sem sig := (SemArray.scalar (sig.barrier 0 rfl) : Sems sig S_).sem

/-- A chunk of a `bf16` product is whole packed rows. -/
theorem packed_rR (i : Fin 8) : (rR i).PackedRows (EltTy.packing .bf16) := by revert i; decide
/-- A chunk of a `bf16` product is whole words. -/
theorem words_rR (i : Fin 8) : (rR i).WholeWords (EltTy.packing .bf16) := by revert i; decide

/-- A chunk of the own partial product is whole words. -/
theorem exact_pVw (i : Fin 8) : (pVw i).view.WordExact :=
  (Memref.isWhole_whole cc0_scratch3).wordExact_slice rfl _ (words_rR i)
/-- A chunk of the place of arrival is whole words. -/
theorem exact_cVw (i : Fin 8) : (cVw i).view.WordExact :=
  (Memref.isWhole_whole cc0_scratch4).wordExact_slice rfl _ (words_rR i)

/-! ## The program -/

/-- The effects the body asks for. -/
abbrev Eff (F : FTy → Type) := TpuEff nD τ sig (Elt F) Λ₀ .tc

/-- The programs `f i`, one after another, for the `i` of a list. -/
def seqL {ι : Type} (f : ι → Prog (Eff F) PUnit) : List ι → Prog (Eff F) PUnit
  | [] => .ret ⟨⟩
  | i :: l => f i >>= fun _ => seqL f l

/-- The eight chunks in order. -/
abbrev chunks : List (Fin 8) := [0, 1, 2, 3, 4, 5, 6, 7]

/-- Tell the peer this device is ready, and wait until the peer says so. -/
noncomputable def barrierP (d : Dev nD) : Prog (Eff F) PUnit :=
  semSignalWord d barr 1#32 >>= fun _ => semWaitWord barr 1#32

/-- Start the copy of `B` into scratch. -/
noncomputable def bStart : Prog (Eff F) PUnit :=
  .op (.enqueueDma bH (.here bV) (.dma bS) (Memref.isWhole_whole _).wordExact (Memref.isWhole_whole _).wordExact
    ⟨Or.inl rfl, trivial⟩) .ret

/-- Start the copy of chunk `i` of `A` into scratch. -/
noncomputable def aStart (i : Fin 8) : Prog (Eff F) PUnit :=
  .op (.enqueueDma (aHw i) (.here (aVw i)) (.dma (aS i)) (View.wordExact_bits rfl) (View.wordExact_bits rfl)
    ⟨Or.inl rfl, trivial⟩) .ret

/-- Wait for `B` and round it to `bf16`. -/
noncomputable def bConv : Prog (Eff F) PUnit :=
  .op (.waitDma2 bS bH bV (View.wordExact_bits rfl) (View.wordExact_bits rfl)) fun _ =>
  .op (.load bV bR.toLoadRect (View.loadsAt_vmem h_S768x1536)) fun v =>
  .op (.load bfV bR.toLoadRect (View.loadsAt_vmem h_S768x1536)) fun _ =>
  .op (.store bfV bR (k0_pay1 v) Finset.univ
    (View.stores_vmem h_S768x1536 ((Memref.isWhole_whole cc0_scratch2).storeExact_slice rfl _
      packedbf16_S768x1536_S768x1536_0_0) (fun _ => rfl)) (.inl rfl)) .ret

/-- Wait for chunk `i` of `A`, multiply it by `B`, and start sending the product to device `d`. -/
noncomputable def mulP (d : Dev nD) (i : Fin 8) : Prog (Eff F) PUnit :=
  .op (.waitDma2 (aS i) (aHw i) (aVw i) (View.wordExact_bits rfl) (View.wordExact_bits rfl)) fun _ =>
  .op (.load aV (aR i).toLoadRect (View.loadsAt_vmem h_S192x768)) fun a =>
  .op (.load bfV bR.toLoadRect (View.loadsAt_vmem h_S768x1536)) fun b =>
  .op (.load pV (rR i).toLoadRect (View.loadsAt_vmem h_S192x1536)) fun _ =>
  .op (.store pV (rR i) (k0_pay2 a b) Finset.univ
    (View.stores_vmem h_S192x1536 ((Memref.isWhole_whole cc0_scratch3).storeExact_slice rfl _
      (packed_rR i)) (fun _ => rfl)) (.inl rfl)) fun _ =>
  .op (.enqueueDma (pVw i) (.remote (Dev.tc d) (cVw i) (.dma (sS i))) (.dma (vS i))
    (exact_pVw i) (exact_cVw i) ⟨⟨rfl, Or.inl rfl⟩, trivial⟩) .ret

/-- Wait for the peer's chunk `i`, add it to the own one, and start copying the sum out. -/
noncomputable def addP (i : Fin 8) : Prog (Eff F) PUnit :=
  .op (.waitDma2 (vS i) (pVw i) (cVw i) (exact_pVw i) (exact_cVw i)) fun _ =>
  .op (.load pV (rR i).toLoadRect (View.loadsAt_vmem h_S192x1536)) fun p =>
  .op (.load cV (rR i).toLoadRect (View.loadsAt_vmem h_S192x1536)) fun q =>
  .op (.load oV (rR i).toLoadRect (View.loadsAt_vmem h_S192x1536)) fun _ =>
  .op (.store oV (rR i) (k0_pay11 p q) Finset.univ (View.stores_vmem_bits_univ h_S192x1536 rfl) (.inl rfl)) fun _ =>
  .op (.enqueueDma (oVw i) (.here (oHw i)) (.dma (oS i)) (View.wordExact_bits rfl) (View.wordExact_bits rfl)
    ⟨Or.inl rfl, trivial⟩) .ret

/-- Wait until chunk `i` has left, and until its sum is written. -/
noncomputable def drainP (i : Fin 8) : Prog (Eff F) PUnit :=
  .op (.waitDma2 (sS i) (cVw i) (pVw i) (exact_cVw i) (exact_pVw i)) fun _ =>
  .op (.waitDma2 (oS i) (oVw i) (oHw i) (View.wordExact_bits rfl) (View.wordExact_bits rfl)) .ret

/-- The body of a device that signals `d` and sends chunk `i` to `e i`. -/
noncomputable def prog (d : Dev nD) (e : Fin 8 → Dev nD) : Prog (Eff F) PUnit :=
  barrierP d >>= fun _ => bStart >>= fun _ => seqL aStart chunks >>= fun _ => bConv >>= fun _ =>
  seqL (fun i => mulP (e i) i) chunks >>= fun _ => seqL addP chunks >>= fun _ => seqL drainP chunks

/-- The device each of the eight sends names. -/
noncomputable def target (d : Dev nD) : Fin 8 → Dev nD
  | 0 => ⟨k0_dev2 d, k0_dev2_lt d⟩
  | 1 => ⟨k0_dev3 d, k0_dev3_lt d⟩
  | 2 => ⟨k0_dev4 d, k0_dev4_lt d⟩
  | 3 => ⟨k0_dev5 d, k0_dev5_lt d⟩
  | 4 => ⟨k0_dev6 d, k0_dev6_lt d⟩
  | 5 => ⟨k0_dev7 d, k0_dev7_lt d⟩
  | 6 => ⟨k0_dev8 d, k0_dev8_lt d⟩
  | 7 => ⟨k0_dev9 d, k0_dev9_lt d⟩

/-- The printed body is the loops. -/
theorem body_eq (t : Fin grid0.N) : bodyAt0 (F := F) t =
    .op .deviceId fun d => prog ⟨k0_dev1 d, k0_dev1_lt d⟩ (target d) := by
  rfl

end Cert.Proof
-- ==== Proof.Rules.lean ====
module

public import proofs.«01_k».proof.Proof.Program
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Tactic

/-!
# Rules for the body's statements, over windows held at known contents

Every rule here is over any device, any window and any float values: a load, a store, a local copy
started and waited for, and a loop over the chunks.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The talking cells' duties, one name each. -/
abbrev UB : Type := URounds (GSem nD τ sig) Unit
/-- The pipeline's component, the talking cells', and the counters of the local copies. -/
abbrev UU : Type := UR sig nD τ × (UB × Counters)

local notation "𝕄" => MT nD τ sig Unit (Elt F) ℕ UU ℕ

/-- The pipeline's component. -/
abbrev EP : Emb (UR sig nD τ) (MT nD τ sig Unit (Elt F) ℕ UU ℕ) := embL
/-- The talking cells' component. -/
def ER : Emb UB (MT nD τ sig Unit (Elt F) ℕ UU ℕ) := (Emb.inl : Emb UB (UB × Counters)).trans embR
/-- The talking cells' component is a part of the users'. -/
instance ER_landsIn : (ER : Emb UB 𝕄).LandsIn (upEmb : UEmb _ 𝕄) := by unfold ER; infer_instance
/-- The counters' component. -/
abbrev EC : UEmb Counters (MT nD τ sig Unit (Elt F) ℕ UU ℕ) := countersEmb (U := UU)

/-- No label is called, so no variants. -/
abbrev 𝒱₀ : Variants := Variants.none

/-- The weakest precondition of a program run by device `c`. -/
abbrev WP (c : Dev nD) {α : Type} (p : Prog (Eff F) α) (Q : α → sProp 𝕄) : sProp 𝕄 :=
  wp frame (wpE (defs₀ (F := F)) 𝒱₀ (c : Thread nD τ) none) Set.univ p Q

/-- Device `c` holds share `q` of a window at contents `X`. -/
abbrev own (c : Dev nD) {sp : Space} {sh : Shape} {e : EltTy} (m : Memref sig .tc sp sh e) (q : PosShare TreeShare)
    (X : sh.Idx → Elt F e) : sProp 𝕄 := owns (c : Thread nD τ) m q X

section Rules

variable (c : Dev nD)

/-- A load reads what the window loaded from holds. -/
theorem wp_load_own {cs : CoreSpace} {s : Shape} {e : EltTy} {m : Memref sig .tc cs s e} {r : Rect s} (hr : ∀ a, r.stride a = 1)
    {hl : m.view.LoadsAt r.toLoadRect} {q : PosShare TreeShare} {X : r.shape.Idx → Elt F e} {α : Type} {Q : α → sProp 𝕄}
    {k : (r.shape.Idx → Elt F e) → Prog (Eff F) α} :
    own c (m.slice r hr) q X ⊢ iprop((own c (m.slice r hr) q X -∗ WP c (k X) Q) -∗ WP c (.op (.load m r.toLoadRect hl) k) Q) := by
  unfold own owns
  iintro ⟨%f, %hf, H⟩ Hk
  iapply (wp_load_rect 𝒱₀ (c : Thread nD τ) none Set.univ (m := m) (r := r) (f := f) (Finset.Subset.refl _)) $$ H
  iintro H
  subst hf
  iapply Hk
  iexists f
  isplitr
  · ipureintro; rfl
  · iexact H

/-- A store of a whole window leaves the stored contents there. -/
theorem wp_store_own {cs : CoreSpace} {s : Shape} {e : EltTy} {m : Memref sig .tc cs s e} {r : Rect s} (hr : ∀ a, r.stride a = 1)
    {w X : r.shape.Idx → Elt F e} {hx : (m.access r).Stores Finset.univ}
    {hm : (Finset.univ : Finset r.shape.Idx) = Finset.univ ∨ ∀ a, r.stride a = 1} {α : Type} {Q : α → sProp 𝕄}
    {k : PUnit → Prog (Eff F) α} :
    own c (m.slice r hr) fullShare X
      ⊢ iprop((own c (m.slice r hr) fullShare w -∗ WP c (k ⟨⟩) Q) -∗ WP c (.op (.store m r w Finset.univ hx hm) k) Q) := by
  unfold own owns
  iintro ⟨%f, -, H⟩ Hk
  iapply (wp_store 𝒱₀ (c : Thread nD τ) none Set.univ (m := m) (r := r) (Mk := Finset.univ) (f := f)
    (S := (m.slice r hr).view.set) (Finset.Subset.refl _)) $$ H
  iintro H
  iapply Hk
  iexists ((m.access r).write (Elt F) f w Finset.univ)
  isplitr
  · ipureintro; exact View.read_write_univ _ _
  · iexact H

/-- A copy in flight on semaphore `sm`, of `N` units, that hands back `D` when it is waited for. -/
abbrev Fly (sm : DmaSem sig) (N : ℕ) (D : sProp 𝕄) : sProp 𝕄 := Transfers.Flight EC (c : Thread nD τ) (.dma sm) () N D

/-- A local copy started on an idle semaphore will hand back its source, and its target at the source's contents. -/
theorem wp_copy_own {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {q : PosShare TreeShare} {X Y : s.Idx → Elt F e} (hN : 0 < dst.view.dmaCredit) {α : Type} {Q : α → sProp 𝕄}
    {k : PUnit → Prog (Eff F) α} :
    iprop(own c src q X ∗ own c dst fullShare Y ∗ semVal ((c : Thread nD τ), .dma sm) 0)
      ⊢ iprop((Fly c sm dst.view.dmaCredit iprop(own c dst fullShare X ∗ own c src q X) -∗ WP c (k ⟨⟩) Q)
          -∗ WP c (.op (.enqueueDma src (.here dst) (.dma sm) hsrc hdst hsem) k) Q) := by
  unfold own owns
  iintro ⟨⟨%f, %hf, Hs⟩, ⟨%g, -, Hd⟩, Hv⟩ Hk
  subst hf
  iapply (Transfers.wp_dmaLocal EC 𝒱₀ (c : Thread nD τ) none (src := src) (dst := dst) (q := q) (fs := f) (fd := g)
    () dst.view.dmaCredit rfl hN (Finset.Subset.refl _)) $$ [Hs Hd Hv]
  · isplitl [Hs]; · iexact Hs
    isplitl [Hd]; · iexact Hd
    iexact Hv
  iintro Hf
  iapply Hk
  iapply (Transfers.Flight_mono EC (c : Thread nD τ) ?_) $$ Hf
  iintro ⟨Hd, Hs⟩
  isplitl [Hd]
  · iexists (dst.view.write (Elt F) g (src.view.read (Elt F) f) Finset.univ)
    isplitr; · ipureintro; exact View.read_write_univ _ _
    iexact Hd
  · iexists f
    isplitr; · ipureintro; rfl
    iexact Hs

/-- A wait for a local copy, by a device that may still owe other cells. -/
theorem wp_await_own {sp sp' : Space} {s : Shape} {e : EltTy} {src : Memref sig .tc sp s e} {dst : Memref sig .tc sp' s e} {sm : DmaSem sig}
    {hsrc : src.view.WordExact} {hdst : dst.view.WordExact} {D : sProp 𝕄}
    {O : CellTallies nD τ sig Unit} {W : Waits sig Unit} {α : Type} {Q : α → sProp 𝕄} {k : PUnit → Prog (Eff F) α} :
    iprop(Fly c sm dst.view.dmaCredit D ∗ owes (c : Thread nD τ) O W ∗ MayWait (c : Thread nD τ) (.dma sm) () O)
      ⊢ iprop((iprop(D ∗ semVal ((c : Thread nD τ), .dma sm) 0 ∗ owes (c : Thread nD τ) O (insert (SemLoc.dma sm, ()) W)) -∗ WP c (k ⟨⟩) Q)
          -∗ WP c (.op (.waitDma2 sm src dst hsrc hdst) k) Q) :=
  Transfers.wp_waitLocalO EC 𝒱₀ (c : Thread nD τ) none () rfl

end Rules

/-! ## Loops -/

/-- A program that is over. -/
theorem wp_done (c : Dev nD) {Q : PUnit → sProp 𝕄} : Q ⟨⟩ ⊢ WP c (.ret ⟨⟩) Q := by
  rw [WP, wp_ret]; iintro H; imodintro; iexact H

/-- One statement after another. -/
theorem wp_then (c : Dev nD) {p : Prog (Eff F) PUnit} {k : Prog (Eff F) PUnit} {P P' : sProp 𝕄} {Q : PUnit → sProp 𝕄}
    (h : P ⊢ WP c p fun _ => P') (h' : P' ⊢ WP c k Q) : P ⊢ WP c (p >>= fun _ => k) Q := by
  rw [WP, wp_bind]
  exact h.trans (wp_mono _ _ _ fun _ => h')

/-- A loop: iteration `i` takes `P i` to `Q i`, and `R`, which says what is left to do, one step further. -/
theorem wp_seq (c : Dev nD) {ι : Type} {f : ι → Prog (Eff F) PUnit} {P Q : ι → sProp 𝕄} {R : List ι → sProp 𝕄}
    (h : ∀ i l, iprop(P i ∗ R (i :: l)) ⊢ WP c (f i) fun _ => iprop(Q i ∗ R l)) (l : List ι) :
    iprop(bigSepL l P ∗ R l) ⊢ WP c (seqL f l) fun _ => iprop(bigSepL l Q ∗ R []) := by
  induction l with
  | nil => exact wp_done (F := F) c (Q := fun _ => iprop(bigSepL [] Q ∗ R []))
  | cons i l ih =>
    rw [bigSepL_cons', bigSepL_cons']
    refine wp_then c (P' := iprop(Q i ∗ (bigSepL l P ∗ R l))) ?_ ?_
    · iintro ⟨⟨Hi, Hl⟩, HR⟩
      ihave Hw := (h i l) $$ [Hi HR]
      · isplitl [Hi] <;> iassumption
      iapply (wp_wand_r) $$ [Hw Hl]
      isplitl [Hw]; · iexact Hw
      iintro %a ⟨Hq, HR⟩
      isplitl [Hq]; · iexact Hq
      isplitl [Hl] <;> iassumption
    · iintro ⟨Hq, Hrest⟩
      ihave Hw := ih $$ Hrest
      iapply (wp_wand_r) $$ [Hw Hq]
      isplitl [Hw]; · iexact Hw
      iintro %a ⟨Hl, HR⟩
      isplitl [Hq Hl]
      · isplitl [Hq] <;> iassumption
      iexact HR

omit [FloatOps F] in
/-- Something held for every chunk, listed. -/
theorem all_chunks (Φ : Fin 8 → sProp 𝕄) : bigSep Finset.univ Φ = bigSepL chunks Φ :=
  bigSep_univ_eq_bigSepL chunks (by decide) (by decide) Φ

/-- The loop over the eight chunks. -/
theorem wp_chunks (c : Dev nD) {f : Fin 8 → Prog (Eff F) PUnit} {P Q : Fin 8 → sProp 𝕄} {R : List (Fin 8) → sProp 𝕄}
    (h : ∀ i l, iprop(P i ∗ R (i :: l)) ⊢ WP c (f i) fun _ => iprop(Q i ∗ R l)) :
    iprop(bigSep Finset.univ P ∗ R chunks) ⊢ WP c (seqL f chunks) fun _ => iprop(bigSep Finset.univ Q ∗ R []) := by
  rw [all_chunks, all_chunks]; exact wp_seq c h chunks

end Cert.Proof

end
-- ==== Proof.Protocol.lean ====
module

public import proofs.«01_k».proof.Proof.Rules

/-!
# What the devices tell each other

Device `c` and its peer, the device `(c + 2) % 4`, exchange partial products. Each device has seventeen
semaphores the two talk through. Its barrier semaphore takes one unit from the peer, which with it hands over
its place of arrival. For each chunk, one semaphore says the chunk has been read for the peer and gives the
share lent for it back, and one says the peer's chunk has arrived and gives it over.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peer -/

set_option backward.proofsInPublic true in
/-- The device this one exchanges with: the other one of its column of the mesh. -/
def peer (c : Dev nD) : Dev nD := ⟨(c.val + 2) % 4, Nat.mod_lt _ (by decide)⟩

/-- The peer's peer is the device itself. -/
theorem peer_peer (c : Dev nD) : peer (peer c) = c := by revert c; decide

/-- Each of the nine device numbers the body computes names the peer. -/
theorem closed_eq (c : Dev nD) : ((c.val % 2) + 2) - 2 * (c.val / 2) = (peer c).val := by revert c; decide

/-- The device signalled is the peer. -/
theorem signal_eq (c : Dev nD) : (⟨k0_dev1 c, k0_dev1_lt c⟩ : Dev nD) = peer c := Fin.ext ((k0_dev1_eq c).trans (closed_eq c))

/-- The device each chunk is sent to is the peer. -/
theorem target_eq (c : Dev nD) (i : Fin 8) : target c i = peer c := by
  refine Fin.ext (Eq.trans ?_ (closed_eq c))
  match i with
  | 0 => exact k0_dev2_eq c
  | 1 => exact k0_dev3_eq c
  | 2 => exact k0_dev4_eq c
  | 3 => exact k0_dev5_eq c
  | 4 => exact k0_dev6_eq c
  | 5 => exact k0_dev7_eq c
  | 6 => exact k0_dev8_eq c
  | 7 => exact k0_dev9_eq c

/-- The exchange as a permutation of the devices. -/
def swap : Dev nD ≃ Dev nD := ⟨peer, peer, peer_peer, peer_peer⟩

/-! ## The semaphores the devices talk through -/

/-- A talking semaphore: the barrier's (`none`), or a chunk's, for leaving (`0`) or for arriving (`1`). -/
abbrev Talk : Type := Option (Fin 2 × Fin 8)

/-- Which semaphore each is. -/
def csem : Talk → SemLoc sig
  | none => .reg barr
  | some (0, i) => .dma (sS i)
  | some (1, i) => .dma (vS i)

set_option backward.proofsInPublic true in
/-- Which of them a semaphore is, if it is one. -/
def kind : SemLoc sig → Option Talk
  | .reg _ => some none
  | .dma q => if h : 25 ≤ q.val then some (some (1, ⟨q.val - 25, by have := q.isLt; change q.val < 33 at this; omega⟩))
      else if h' : 17 ≤ q.val then some (some (0, ⟨q.val - 17, by omega⟩)) else none

/-- A talking semaphore is recognised as itself. -/
theorem kind_csem (k : Talk) : kind (csem k) = some k := by revert k; decide
/-- The semaphores of `A`'s copies are no talking semaphores, -/
theorem kind_a (i : Fin 8) : kind (.dma (aS i)) = none := by revert i; decide
/-- nor is that of `B`'s copy, -/
theorem kind_b : kind (.dma bS) = none := by decide
/-- nor are those of the result's copies. -/
theorem kind_o (i : Fin 8) : kind (.dma (oS i)) = none := by revert i; decide

/-- The talking semaphores are different from each other, -/
theorem csem_injective : Function.Injective csem := fun k k' h => by
  have := congrArg kind h; rw [kind_csem, kind_csem] at this; exact Option.some.inj this

/-- Device `c`'s talking semaphore `k`. -/
abbrev cell (c : Dev nD) (k : Talk) : GSem nD τ sig := ((c : Thread nD τ), csem k)
/-- Device `c`'s barrier. -/
abbrev barC (c : Dev nD) : GSem nD τ sig := cell c none
/-- Chunk `i` has left device `c`. -/
abbrev sndC (c : Dev nD) (i : Fin 8) : GSem nD τ sig := cell c (some (0, i))
/-- Chunk `i` has arrived at device `c`. -/
abbrev rcvC (c : Dev nD) (i : Fin 8) : GSem nD τ sig := cell c (some (1, i))

/-- and on different devices they are different too. -/
theorem cell_inj {c c' : Dev nD} {k k' : Talk} (h : cell c k = cell c' k') : c = c' ∧ k = k' :=
  ⟨congrArg (fun g : GSem nD τ sig => g.1.1) h, csem_injective (congrArg Prod.snd h)⟩

/-- The units one chunk counts for. -/
abbrev N : ℕ := (cVw 0).view.dmaCredit
/-- Every chunk counts for the same number of units, -/
theorem N_eq (i : Fin 8) : (cVw i).view.dmaCredit = N := rfl
/-- and for at least one. -/
theorem N_pos : 0 < N := View.dmaCredit_pos _ (by decide)

/-! ## The contents -/

variable (m : (ℓ : Loc nD τ sig) → Buf (Elt F) ℓ)

/-- Device `c`'s block of `A`. -/
def aC (c : Dev nD) : S1536x768.Idx → Elt F .f32 := m ((c : Thread nD τ).loc main_arg0)
/-- Device `c`'s block of `B`. -/
def bC (c : Dev nD) : S768x1536.Idx → Elt F .f32 := m ((c : Thread nD τ).loc main_arg1)
/-- Chunk `i` of the partial product device `c` computes. -/
def pC (c : Dev nD) (i : Fin 8) : S192x1536.Idx → Elt F .bf16 := k0_pay2 (fun j => aC m c ((aR i).emb j)) (k0_pay1 (bC m c))
/-- Chunk `i` of the sum. -/
def sC (c : Dev nD) (i : Fin 8) : S192x1536.Idx → Elt F .f32 := k0_pay11 (pC m c i) (pC m (peer c) i)

/-! ## The schedule -/

/-- What the peer's signal hands device `c`: the peer's place of arrival, at any contents. -/
def barPay (c : Dev nD) : sProp 𝕄 := bigSep Finset.univ fun i : Fin 8 => iprop(∃ X, own (peer c) (cVw i) fullShare X)
/-- What device `c` gets back when its chunk has left: the half share lent to the transfer. -/
def sndPay (c : Dev nD) (i : Fin 8) : sProp 𝕄 := own c (pVw i) fullShare.left (pC m c i)
/-- What device `c` gets when a chunk has arrived: the peer's partial product. -/
def rcvPay (c : Dev nD) (i : Fin 8) : sProp 𝕄 := own c (cVw i) fullShare (pC m (peer c) i)

/-- What a semaphore of device `c` hands over. -/
def pay (c : Dev nD) : Option Talk → sProp 𝕄
  | some none => barPay c
  | some (some (0, i)) => sndPay m c i
  | some (some (1, i)) => rcvPay m c i
  | none => iprop(emp)

/-- What a semaphore hands over can be kept in an invariant, -/
instance pay_storable (c : Dev nD) (k : Option Talk) : BI.Storable (upEmb : UEmb _ 𝕄) (pay m c k) := by
  rcases k with _ | _ | ⟨b, i⟩
  · unfold pay; infer_instance
  · unfold pay barPay own; infer_instance
  · match b with
    | 0 => unfold pay sndPay own; infer_instance
    | 1 => unfold pay rcvPay own; infer_instance

/-- Every talking semaphore has one round of one duty: a barrier's is one unit, a chunk's the chunk's units. -/
def sched : Rounds.Schedule (GSem nD τ sig) Unit 𝕄 where
  duties g r := if r = 0 ∧ g.1.2 = .tc ∧ (kind g.2).isSome then {()} else ∅
  unitless _ := False
  amount g _ _ := if kind g.2 = some none then 1 else N
  payload g _ _ := pay m g.1.1 (kind g.2)
  amount_pos g _ _ _ := by split <;> [exact Nat.one_pos; exact N_pos]

/-- and so can every payload of the schedule. -/
instance sched_storable (g : GSem nD τ sig) (r : ℕ) (d : Unit) : BI.Storable (upEmb : UEmb _ 𝕄) ((sched m).payload g r d) :=
  pay_storable m g.1.1 (kind g.2)

section Sched
variable (c : Dev nD) (k : Talk) (i : Fin 8)

/-- The one duty of a talking semaphore, -/
theorem duties_cell : (sched (F := F) m).duties (cell c k) 0 = {()} := by
  dsimp only [sched]; exact if_pos ⟨rfl, rfl, by rw [kind_csem]; rfl⟩
/-- as a member of its round, -/
theorem duty_mem : () ∈ (sched (F := F) m).duties (cell c k) 0 := by rw [duties_cell]; exact Finset.mem_singleton_self _
/-- and no duty in a later round. -/
theorem duties_later (g : GSem nD τ sig) : ∀ r, 1 ≤ r → (sched (F := F) m).duties g r = ∅ :=
  fun r hr => by dsimp only [sched]; exact if_neg fun h => by omega
/-- A barrier takes one unit, -/
theorem amount_bar : (sched (F := F) m).amount (barC c) 0 () = 1 := by dsimp only [sched]; exact if_pos (kind_csem none)
/-- a chunk's semaphore the chunk's units, -/
theorem amount_some (x : Fin 2 × Fin 8) : (sched (F := F) m).amount (cell c (some x)) 0 () = N := by
  dsimp only [sched]; exact if_neg (by rw [kind_csem]; exact fun h => Option.some_ne_none _ (Option.some.inj h))
/-- and a wait expects just that. -/
theorem expect_cell : (sched (F := F) m).expect (cell c k) 0 = (sched (F := F) m).amount (cell c k) 0 () := by
  unfold Schedule.expect Schedule.amountOf; rw [duties_cell, Finset.sum_singleton]
/-- What the duty of a talking semaphore hands over, -/
theorem payload_cell : (sched (F := F) m).payload (cell c k) 0 () = pay m c (some k) := by
  dsimp only [sched]; rw [kind_csem]
/-- which is all that its wait receives. -/
theorem rest_cell : bigSep ((sched (F := F) m).duties (cell c k) 0 \ ∅) (fun d => (sched (F := F) m).payload (cell c k) 0 d) = pay m c (some k) := by
  rw [Finset.sdiff_empty, duties_cell, bigSep_singleton, payload_cell]

end Sched

/-! ## What is owed, and in which order it may be waited for -/

/-- What device `c` still owes its peer while the chunks of `l` are still to be sent. -/
def debt (c : Dev nD) : List (Fin 8) → CellTallies nD τ sig Unit
  | [] => 0
  | i :: l => debt c l + tallyAt (rcvC (peer c) i) () N

/-- What device `c` owes at the start: every chunk, and the signal. -/
def owed₀ (c : Dev nD) : CellTallies nD τ sig Unit := debt c chunks + tallyAt (barC (peer c)) () 1

/-- A device's own semaphores are waited for by itself. -/
def L (g : GSem nD τ sig) : Finset Unit := if g.1.2 = .tc then {()} else ∅
/-- Barriers come before arrivals; the others depend on nothing that is owed. -/
def lv (g : GSem nD τ sig) (_ : Unit) : ℕ := match kind g.2 with
  | some none => 1
  | some (some (1, _)) => 2
  | _ => 0

/-- A semaphore of another thread has no level; -/
theorem L_of_ne (g : GSem nD τ sig) (h : g.1.2 ≠ .tc) : L g = ∅ := if_neg h
/-- one of a device has the one. -/
theorem L_tc (c : Dev nD) (sm : SemLoc sig) : L ((c : Thread nD τ), sm) = {()} := if_pos rfl
/-- The level of a barrier. -/
theorem lv_bar (c : Dev nD) : lv (barC c) () = 1 := by unfold lv; rw [kind_csem]
/-- The level of an arrival. -/
theorem lv_rcv (c : Dev nD) (i : Fin 8) : lv (rcvC c i) () = 2 := by unfold lv; rw [kind_csem]; rfl

/-- Of chunks still to be sent a device owes only its peer's arrivals. -/
theorem debt_pos {c : Dev nD} {l : List (Fin 8)} {g : GSem nD τ sig} {u : Unit} (h : 0 < debt c l g u) : ∃ i, g = rcvC (peer c) i := by
  induction l with
  | nil => exact absurd h (Nat.lt_irrefl 0)
  | cons i l ih =>
    unfold debt at h
    rw [Pi.add_apply, Finsupp.add_apply, tallyAt_apply] at h
    by_cases hi : g = rcvC (peer c) i ∧ u = ()
    · exact ⟨i, hi.1⟩
    · rw [if_neg hi, Nat.add_zero] at h; exact ih h

/-- While it owes chunks only, a device may wait for anything below the arrivals. -/
theorem mayWait_debt (c : Dev nD) (l : List (Fin 8)) (sm : SemLoc sig) (h : lv ((c : Thread nD τ), sm) () < 2) :
    (levAts L lv : sProp 𝕄) ⊢ MayWait (c : Thread nD τ) sm () (debt c l) :=
  MayOwe.of_cut (L := L) (lev := lv) 1 (fun p hp => by rw [Finset.mem_singleton.mp hp, L_tc]; exact Finset.mem_singleton_self _)
    (fun g u hg => by obtain ⟨i, rfl⟩ := debt_pos hg; rw [L_tc]; exact Finset.mem_singleton_self _)
    (fun p hp => by rw [Finset.mem_singleton.mp hp]; exact Nat.le_of_lt_succ h)
    (fun g u hg => by obtain ⟨i, rfl⟩ := debt_pos hg; rw [show u = () from rfl, lv_rcv]; decide)

/-- A device that owes nothing may wait for anything. -/
theorem mayWait_nothing (c : Dev nD) (sm : SemLoc sig) : (levAts L lv : sProp 𝕄) ⊢ MayWait (c : Thread nD τ) sm () 0 := by
  rw [MayWait_zero]; iintro -; iempintro

/-! ## What the devices know and hold of the protocol -/

/-- Every talking semaphore's invariant, under the name it was given, and that each has reached its round. -/
def records (K : Dev nD × Talk → ℕ) : sProp 𝕄 :=
  iprop((bigSep Finset.univ fun ck : Dev nD × Talk => cellInv ER (sched m) (K ck) (cell ck.1 ck.2))
    ∗ bigSep Finset.univ fun ck : Dev nD × Talk => reached ER (cell ck.1 ck.2) 0)

/-- The records may be used again and again. -/
instance records_persistent (K : Dev nD × Talk → ℕ) : BI.Persistent (records m K) := by unfold records; infer_instance

/-- They hold each talking semaphore's invariant, -/
theorem inv_at (K : Dev nD × Talk → ℕ) (c : Dev nD) (k : Talk) : records m K ⊢ cellInv ER (sched m) (K (c, k)) (cell c k) := by
  unfold records
  iintro ⟨H, -⟩
  iapply (show (bigSep Finset.univ fun ck : Dev nD × Talk => cellInv ER (sched m) (K ck) (cell ck.1 ck.2))
    ⊢ cellInv ER (sched m) (K (c, k)) (cell c k) from bigSep_elim (Finset.mem_univ (c, k))) $$ H

/-- and that each has reached its round. -/
theorem reached_at (K : Dev nD × Talk → ℕ) (c : Dev nD) (k : Talk) : records m K ⊢ (reached ER (cell c k) 0 : sProp 𝕄) := by
  unfold records
  iintro ⟨-, H⟩
  iapply (show (bigSep Finset.univ fun ck : Dev nD × Talk => (reached ER (cell ck.1 ck.2) 0 : sProp 𝕄))
    ⊢ reached ER (cell c k) 0 from bigSep_elim (Finset.mem_univ (c, k))) $$ H

end Cert.Proof

end
-- ==== Proof.Steps.lean ====
module

public import proofs.«01_k».proof.Proof.Protocol

/-!
# Every statement group of the body, run once

One theorem for each group of the body, for any device `c` and, inside a loop, any chunk `i`: what the group
takes and what it leaves.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Talk → ℕ) (c : Dev nD)

/-- Held at some contents. -/
abbrev some' {sp : Space} {sh : Shape} {e : EltTy} (v : Memref sig .tc sp sh e) : sProp 𝕄 := iprop(∃ X, own c v fullShare X)

/-- An idle semaphore. -/
abbrev idle (q : DmaSem sig) : sProp 𝕄 := semVal ((c : Thread nD τ), .dma q) 0

/-- What everyone knows: the talking semaphores' invariants, and the order of waiting. -/
def know : sProp 𝕄 := iprop(records m K ∗ levAts L lv)
/-- What is known may be used again and again. -/
instance know_persistent : BI.Persistent (know m K) := by unfold know; infer_instance

/-- It holds each talking semaphore's invariant, -/
theorem know_inv (d : Dev nD) (k : Talk) : know m K ⊢ cellInv ER (sched m) (K (d, k)) (cell d k) := by
  unfold know; iintro ⟨H, -⟩; iapply (inv_at m K d k) $$ H
/-- that each has reached its round, -/
theorem know_reached (d : Dev nD) (k : Talk) : know m K ⊢ (reached ER (cell d k) 0 : sProp 𝕄) := by
  unfold know; iintro ⟨H, -⟩; iapply (reached_at m K d k) $$ H
/-- and that a device that owes only chunks may wait for anything that comes before arrivals. -/
theorem know_debt (l : List (Fin 8)) (sm : SemLoc sig) (h : lv ((c : Thread nD τ), sm) () < 2) :
    know m K ⊢ (MayWait (c : Thread nD τ) sm () (debt c l) : sProp 𝕄) := by
  unfold know; iintro ⟨-, H⟩; iapply (mayWait_debt c l sm h) $$ H

/-- What device `c` still owes, the chunks of `l`, whatever it has waited for. -/
def owing (l : List (Fin 8)) : sProp 𝕄 := iprop(∃ W, owes (c : Thread nD τ) (debt c l) W)

/-- A chunk of device `c`'s block of `A`. -/
abbrev aC' (i : Fin 8) : S192x768.Idx → Elt F .f32 := fun j => aC m c ((aR i).emb j)

/-! ## The wait on a talking semaphore -/

/-- The wait for a chunk to leave or to arrive brings what the semaphore hands over, and the semaphore is done. -/
theorem wp_talk (x : Fin 2 × Fin 8) (q : DmaSem sig) (hq : csem (some x) = .dma q) {sp sp' : Space} {s s' : Shape} {e e' : EltTy}
    {src : Memref sig .tc sp s e} {dst : Memref sig .tc sp' s' e'} {hsrc : src.view.WordExact} {hdst : dst.view.WordExact}
    (hN : dst.view.dmaCredit = N) {α : Type} {Q : α → sProp 𝕄} {k : PUnit → Prog (Eff F) α} :
    iprop(know m K ∗ cred (tallyAt (cell c (some x)) () N) ∗ owing c [] ∗ atPos ER (cell c (some x)) 0 ∅ 0)
      ⊢ iprop((iprop(owing c [] ∗ semVal (cell c (some x)) 0 ∗ pay m c (some (some x))) -∗ WP c (k ⟨⟩) Q)
          -∗ WP c (.op (.waitDma2 q src dst hsrc hdst) k) Q) := by
  have hc : cell c (some x) = ((c : Thread nD τ), SemLoc.dma q) := by rw [cell, hq]
  have hrest := rest_cell m c (some x)
  have hexp := (expect_cell m c (some x)).trans (amount_some m c x)
  have hinv := know_inv m K c (some x)
  have hlater := duties_later m (cell c (some x))
  rw [hc] at hrest hexp hinv hlater ⊢
  unfold owing debt
  iintro ⟨#HK, Hc, ⟨%W, HO⟩, Hat⟩ Hk
  iapply (Rounds.wp_wait_rest_token 𝒱₀ ER (sched m) (c : Thread nD τ) none (κ := K (c, some x))
      (wpE_waitDma2_eq 𝒱₀ (c : Thread nD τ) none Set.univ) (Set.mem_univ _) () (O := 0) (W := W) (R := 0) (m := 0) (T := ∅)
      (by rw [Nat.zero_add, hexp, ← hN])) $$ [Hc HO Hat]
  · isplitr; · iapply hinv; iexact HK
    isplitl [Hc]; · rw [hN]; iexact Hc
    isplitl [HO]; · iexact HO
    isplitr; · rw [MayWait_zero]; iempintro
    iexact Hat
  iintro ⟨HO, Hat, -, Hpay⟩
  ihave Hp := (Entails.of_eq hrest) $$ Hpay
  imod (Rounds.cell_close ER (sched m) (Set.mem_univ (K (c, some x))) (fun h => h) (R := 0 + 1) hlater) $$ [Hat] with Hz
  · isplitr; · iapply hinv; iexact HK
    iexact Hat
  iapply Hk
  isplitl [HO]; · iexists _; iexact HO
  isplitl [Hz] <;> iassumption

/-! ## The handshake -/

/-- The device's place of arrival goes to the peer, and the peer's comes. -/
theorem barrier_spec (W : Waits sig Unit) :
    iprop(know m K ∗ owes (c : Thread nD τ) (owed₀ c) W ∗ dutyTok ER (barC (peer c)) 0 () ∗ atPos ER (barC c) 0 ∅ 0
        ∗ cred (tallyAt (barC c) () 1) ∗ bigSep Finset.univ fun i : Fin 8 => some' c (cVw i))
      ⊢ WP c (barrierP (F := F) (peer c)) fun _ =>
        iprop(owing c chunks ∗ semVal (barC c) 0 ∗ bigSep Finset.univ fun i : Fin 8 => some' (peer c) (cVw i)) := by
  unfold barrierP WP
  simp only [semSignalWord, semWaitWord, Prog.bind_op, Prog.bind_ret]
  iintro ⟨#HK, HO, Ht, Hat, Hc, Hp⟩
  unfold owed₀
  iapply (Rounds.wp_signal 𝒱₀ ER (sched m) (c : Thread nD τ) none (dst := (peer c : Thread nD τ)) (κ := K (peer c, none))
      (d := ()) (duty_mem m (peer c) none)
      ((amount_bar m (peer c)).trans (by decide)) () (debt c chunks) rfl) $$ [HO Ht Hp]
  · isplitr; · iapply (know_inv m K (peer c) none); iexact HK
    isplitl [HO]; · iexact HO
    isplitl [Ht]; · iexact Ht
    isplitl [Hp]
    · iapply (show pay m (peer c) (some none) ⊢ (sched m).payload ((peer c : Thread nD τ), SemLoc.reg barr) 0 () from
        Entails.of_eq (payload_cell m (peer c) none).symm)
      unfold pay barPay; rw [peer_peer]; iexact Hp
    iapply (know_reached m K (peer c) none); iexact HK
  iintro HO
  iapply (Rounds.wp_wait_rest_token 𝒱₀ ER (sched m) (c : Thread nD τ) none (κ := K (c, none))
      (wpE_semWait_eq 𝒱₀ (c : Thread nD τ) none Set.univ) (Set.mem_univ _) () (O := debt c chunks) (W := W) (R := 0) (m := 0) (T := ∅)
      (by rw [show ((c : Thread nD τ), SemLoc.reg barr) = barC c from rfl, expect_cell, amount_bar]; decide)) $$ [Hc HO Hat]
  · isplitr; · iapply (know_inv m K c none); iexact HK
    isplitl [Hc]; · iexact Hc
    isplitl [HO]; · iexact HO
    isplitr
    · iapply (know_debt m K c chunks (.reg barr) (by rw [show ((c : Thread nD τ), SemLoc.reg barr) = barC c from rfl, lv_bar]; decide)); iexact HK
    iexact Hat
  iintro ⟨HO, Hat, -, Hpay⟩
  ihave Hp := (show bigSep ((sched m).duties ((c : Thread nD τ), SemLoc.reg barr) 0 \ ∅)
      (fun d => (sched m).payload ((c : Thread nD τ), SemLoc.reg barr) 0 d) ⊢ pay m c (some none) from
    Entails.of_eq (rest_cell m c none)) $$ Hpay
  imod (Rounds.cell_close ER (sched m) (Set.mem_univ (K (c, none))) (fun h => h) (R := 0 + 1) (duties_later m (barC c))) $$ [Hat] with Hz
  · isplitr; · iapply (know_inv m K c none); iexact HK
    iexact Hat
  rw [wp_ret]; imodintro
  isplitl [HO]; · unfold owing; iexists _; iexact HO
  isplitl [Hz]; · iexact Hz
  unfold pay barPay; iexact Hp

/-! ## The copies in -/

/-- The copy of `B` is under way. -/
theorem bStart_spec :
    iprop(own c bH fullShare (bC m c) ∗ some' c bV ∗ idle c bS)
      ⊢ WP c (bStart (F := F)) fun _ => Fly c bS bV.view.dmaCredit iprop(own c bV fullShare (bC m c) ∗ own c bH fullShare (bC m c)) := by
  unfold bStart
  iintro ⟨Hs, ⟨%Y, Hd⟩, Hv⟩
  iapply (wp_copy_own c (View.dmaCredit_pos _ (by decide))) $$ [Hs Hd Hv]
  · isplitl [Hs]; · iexact Hs
    isplitl [Hd] <;> iassumption
  iintro H
  iapply (wp_done c); iexact H

/-- A chunk of `A` at rest: what its copy takes. -/
def aBefore (i : Fin 8) : sProp 𝕄 := iprop(own c (aHw i) fullShare (aC' m c i) ∗ some' c (aVw i) ∗ idle c (aS i))
/-- A chunk of `A` under way. -/
def aFly (i : Fin 8) : sProp 𝕄 :=
  Fly c (aS i) (aVw i).view.dmaCredit iprop(own c (aVw i) fullShare (aC' m c i) ∗ own c (aHw i) fullShare (aC' m c i))
/-- A chunk of `A` after its copy. -/
def aAfter (i : Fin 8) : sProp 𝕄 := iprop(own c (aHw i) fullShare (aC' m c i) ∗ some' c (aVw i) ∗ idle c (aS i))

/-- The copy of chunk `i` of `A` is under way. -/
theorem aStart_spec (i : Fin 8) : aBefore m c i ⊢ WP c (aStart (F := F) i) fun _ => aFly m c i := by
  unfold aStart aBefore aFly
  iintro ⟨Hs, ⟨%Y, Hd⟩, Hv⟩
  iapply (wp_copy_own c (View.dmaCredit_pos _ (by decide))) $$ [Hs Hd Hv]
  · isplitl [Hs]; · iexact Hs
    isplitl [Hd] <;> iassumption
  iintro H
  iapply (wp_done c); iexact H

/-! ## The block of `B` in `bf16` -/

/-- The offset of a whole block. -/
theorem zero_offset : (![0, 0] : Fin 2 → Nat) = fun _ => 0 := funext fun a => by fin_cases a <;> rfl

/-- A load of the whole scratch copy of `B`. -/
theorem wp_load_b {X : S768x1536.Idx → Elt F .f32} {hl : bV.view.LoadsAt bR.toLoadRect} {α : Type} {Q : α → sProp 𝕄}
    {k : (S768x1536.Idx → Elt F .f32) → Prog (Eff F) α} :
    own c bV fullShare X ⊢ iprop((own c bV fullShare X -∗ WP c (k X) Q) -∗ WP c (.op (.load bV bR.toLoadRect hl) k) Q) := by
  unfold own; rw [show owns (c : Thread nD τ) bV fullShare X = _ from owns_whole (c : Thread nD τ) cc0_scratch1 fullShare X]
  iintro H Hk
  iapply (wp_load 𝒱₀ (c : Thread nD τ) none Set.univ (m := bV) (Finset.subset_univ _)) $$ H
  rw [show bV.view.readAt (Elt F) bR.toLoadRect X = X from Memref.readAt_unit_zero (Elt F) cc0_scratch1 zero_offset _ X]
  iexact Hk

/-- A load of the whole `bf16` block. -/
theorem wp_load_bf {X : S768x1536.Idx → Elt F .bf16} {hl : bfV.view.LoadsAt bR.toLoadRect} {α : Type} {Q : α → sProp 𝕄}
    {k : (S768x1536.Idx → Elt F .bf16) → Prog (Eff F) α} :
    own c bfV fullShare X ⊢ iprop((own c bfV fullShare X -∗ WP c (k X) Q) -∗ WP c (.op (.load bfV bR.toLoadRect hl) k) Q) := by
  unfold own; rw [show owns (c : Thread nD τ) bfV fullShare X = _ from owns_whole (c : Thread nD τ) cc0_scratch2 fullShare X]
  iintro H Hk
  iapply (wp_load 𝒱₀ (c : Thread nD τ) none Set.univ (m := bfV) (Finset.subset_univ _)) $$ H
  rw [show bfV.view.readAt (Elt F) bR.toLoadRect X = X from Memref.readAt_unit_zero (Elt F) cc0_scratch2 zero_offset _ X]
  iexact Hk

/-- A store of the whole `bf16` block. -/
theorem wp_store_bf {X w : S768x1536.Idx → Elt F .bf16} {hx : (bfV.access bR).Stores Finset.univ}
    {hm : (Finset.univ : Finset bR.shape.Idx) = Finset.univ ∨ ∀ a, bR.stride a = 1} {α : Type} {Q : α → sProp 𝕄}
    {k : PUnit → Prog (Eff F) α} :
    own c bfV fullShare X
      ⊢ iprop((own c bfV fullShare w -∗ WP c (k ⟨⟩) Q) -∗ WP c (.op (.store bfV bR w Finset.univ hx hm) k) Q) := by
  unfold own
  rw [show owns (c : Thread nD τ) bfV fullShare X = _ from owns_whole (c : Thread nD τ) cc0_scratch2 fullShare X,
    show owns (c : Thread nD τ) bfV fullShare w = _ from owns_whole (c : Thread nD τ) cc0_scratch2 fullShare w]
  iintro H Hk
  iapply (wp_store 𝒱₀ (c : Thread nD τ) none Set.univ (m := bfV) (r := bR) (Mk := Finset.univ) (Finset.subset_univ _)) $$ H
  rw [show (bfV.access bR : View sig .tc _ _ _).write (Elt F) X w Finset.univ = w from
    Memref.write_access_unit_zero_univ (Elt F) cc0_scratch2 zero_offset _ X w]
  iexact Hk

/-- `B` has arrived and is rounded. -/
theorem bConv_spec :
    iprop(know m K ∗ Fly c bS bV.view.dmaCredit iprop(own c bV fullShare (bC m c) ∗ own c bH fullShare (bC m c))
        ∗ some' c bfV ∗ owing c chunks)
      ⊢ WP c (bConv (F := F)) fun _ =>
        iprop((own c bH fullShare (bC m c) ∗ some' c bV ∗ idle c bS) ∗ own c bfV fullShare (k0_pay1 (bC m c)) ∗ owing c chunks) := by
  unfold bConv owing
  iintro ⟨#HK, Hf, ⟨%Y, Hb⟩, ⟨%W, HO⟩⟩
  iapply (wp_await_own c) $$ [Hf HO]
  · isplitl [Hf]; · iexact Hf
    isplitl [HO]; · iexact HO
    iapply (know_debt m K c chunks (.dma bS) (by unfold lv; rw [kind_b]; decide)); iexact HK
  iintro ⟨⟨Hd, Hs⟩, Hv, HO⟩
  iapply (wp_load_b c) $$ Hd
  iintro Hd
  iapply (wp_load_bf c) $$ Hb
  iintro Hb
  iapply (wp_store_bf c) $$ Hb
  iintro Hb
  iapply (wp_done c)
  isplitl [Hs Hd Hv]
  · isplitl [Hs]; · iexact Hs
    isplitl [Hd]; · iexists _; iexact Hd
    iexact Hv
  isplitl [Hb]; · iexact Hb
  iexists _; iexact HO

/-! ## The products -/

/-- A window held whole is held by halves. -/
theorem own_split {sp : Space} {sh : Shape} {e : EltTy} (v : Memref sig .tc sp sh e) (X : sh.Idx → Elt F e) :
    (own c v fullShare X : sProp 𝕄) ⊢ iprop(own c v fullShare.left X ∗ own c v fullShare.right X) := by
  unfold own owns
  iintro ⟨%f, %hf, H⟩
  ihave H' := (pointsTo_share (PosShare.mem_left_op_right fullShare)).1 $$ H
  icases H' with ⟨Hl, Hr⟩
  isplitl [Hl]
  · iexists f; isplitr; · ipureintro; exact hf
    iexact Hl
  · iexists f; isplitr; · ipureintro; exact hf
    iexact Hr

/-- Both halves of a window are the whole of it. -/
theorem own_join {sp : Space} {sh : Shape} {e : EltTy} (v : Memref sig .tc sp sh e) (X Y : sh.Idx → Elt F e) :
    iprop(own c v fullShare.left X ∗ own c v fullShare.right Y) ⊢ (some' c v : sProp 𝕄) := by
  unfold some' own owns
  iintro ⟨⟨%f, %hf, Hl⟩, ⟨%g, %hg, Hr⟩⟩
  ihave H := (persistent_entails_right (pointsTo_agree (ℓ := v.view.loc (c : Thread nD τ)) (I := v.view.set) (J := v.view.set))) $$ [Hl Hr]
  · isplitl [Hl] <;> iassumption
  icases H with ⟨%h, Hl, Hr⟩
  iexists X; iexists f
  isplitr; · ipureintro; exact hf
  iapply (pointsTo_share (PosShare.mem_left_op_right fullShare)).2
  isplitl [Hl]; · iexact Hl
  iapply (Entails.of_eq (pointsTo_congr (fun i hi => (h i (Finset.mem_inter.mpr ⟨hi, hi⟩)).1.symm)))
  iexact Hr

/-- Everything chunk `i` of the product takes besides its chunk of `A`: a place for it here and at the peer, and the two
    duties its transfer pays. -/
def mulBefore (i : Fin 8) : sProp 𝕄 :=
  iprop(some' c (pVw i) ∗ some' (peer c) (cVw i) ∗ dutyTok ER (sndC c i) 0 () ∗ dutyTok ER (rcvC (peer c) i) 0 ())
/-- Chunk `i` of the product is on its way: half of it is still held, and the other half will come back. -/
def mulAfter (i : Fin 8) : sProp 𝕄 := iprop(own c (pVw i) fullShare.right (pC m c i) ∗ cred (tallyAt (sndC c i) () N))

/-- The transfer of chunk `i` to the peer. -/
theorem wp_send_chunk (i : Fin 8) (l : List (Fin 8)) {hsc : (cVw i : Memref sig (Dev.tc (peer c) : Thread nD τ).2.kind .vmem S192x1536 .bf16).view.ref.isScScratch = false}
    {hsrc : (pVw i).view.WordExact} {hdst : (cVw i).view.WordExact}
    {hsem : DmaTarget.Typed .vmem (.dma (vS i)) (.remote (Dev.tc (peer c) : Thread nD τ) (cVw i) (.dma (sS i)) hsc)}
    {α : Type} {Q : α → sProp 𝕄} {k : PUnit → Prog (Eff F) α} :
    iprop(know m K ∗ own c (pVw i) fullShare.left (pC m c i) ∗ some' (peer c) (cVw i) ∗ owing c (i :: l)
        ∗ dutyTok ER (sndC c i) 0 () ∗ dutyTok ER (rcvC (peer c) i) 0 ())
      ⊢ iprop((iprop(cred (tallyAt (sndC c i) () N) ∗ owing c l) -∗ WP c (k ⟨⟩) Q)
          -∗ WP c (.op (.enqueueDma (pVw i) (.remote (Dev.tc (peer c) : Thread nD τ) (cVw i) (.dma (sS i)) hsc) (.dma (vS i)) hsrc hdst hsem) k) Q) := by
  unfold owing some' own owns
  iintro ⟨#HK, ⟨%f, %hf, Hs⟩, ⟨%X, %g, -, Hd⟩, ⟨%W, HO⟩, Ht, Ht'⟩ Hk
  iapply (Rounds.wp_send_pointsTo 𝒱₀ ER (sched m) (c : Thread nD τ) none (κ₁ := K (c, some (0, i))) (κ₂ := K (peer c, some (1, i)))
    (r₁ := 0) (r₂ := 0) (d₁ := ()) (d₂ := ()) (c' := (peer c : Thread nD τ)) (q := fullShare.left) (src := pVw i) (dst := cVw i) (fs := f) (fd := g)
    (duty_mem m c (some (0, i)))
    (duty_mem m (peer c) (some (1, i)))
    () () N rfl (amount_some m c (0, i)) (amount_some m (peer c) (1, i)) (debt c l) rfl (W := W)
    ((show _ ⊢ pay m c (some (some (0, i))) from ?_).trans (Entails.of_eq (payload_cell m c (some (0, i))).symm))
    ((show _ ⊢ pay m (peer c) (some (some (1, i))) from ?_).trans (Entails.of_eq (payload_cell m (peer c) (some (1, i))).symm)))
    $$ [Hs Hd HO Ht Ht']
  rotate_left 2
  · isplitr; · iapply (know_inv m K c (some (0, i))); iexact HK
    isplitr; · iapply (know_inv m K (peer c) (some (1, i))); iexact HK
    isplitl [Hs]; · iexact Hs
    isplitl [Hd]; · iexact Hd
    isplitl [HO]; · iexact HO
    isplitl [Ht]; · iexact Ht
    isplitr; · iapply (know_reached m K c (some (0, i))); iexact HK
    isplitl [Ht']; · iexact Ht'
    iapply (know_reached m K (peer c) (some (1, i))); iexact HK
  · iintro ⟨Hc, HO⟩
    iapply Hk
    isplitl [Hc]; · iexact Hc
    iexists W; iexact HO
  · unfold pay sndPay own owns
    iintro H; iexists f
    isplitr; · ipureintro; exact hf
    iexact H
  · unfold pay rcvPay own owns
    iintro H; iexists ((cVw i).view.write (Elt F) g ((pVw i).view.read (Elt F) f) Finset.univ)
    isplitr; · ipureintro; rw [peer_peer]; exact (View.read_write_univ _ _).trans hf
    iexact H

/-- Chunk `i`: multiplied, and on its way to the peer. -/
theorem mul_spec (i : Fin 8) (l : List (Fin 8)) :
    iprop((aFly m c i ∗ mulBefore c i) ∗ (know m K ∗ own c bfV fullShare (k0_pay1 (bC m c)) ∗ owing c (i :: l)))
      ⊢ WP c (mulP (F := F) (peer c) i) fun _ =>
        iprop((aAfter m c i ∗ mulAfter m c i) ∗ (know m K ∗ own c bfV fullShare (k0_pay1 (bC m c)) ∗ owing c l)) := by
  unfold mulP aFly mulBefore
  iintro ⟨⟨Hf, ⟨%Y, Hp⟩, Hc, Ht, Ht'⟩, #HK, Hb, HO⟩
  unfold owing
  icases HO with ⟨%W, HO⟩
  iapply (wp_await_own c) $$ [Hf HO]
  · isplitl [Hf]; · iexact Hf
    isplitl [HO]; · iexact HO
    iapply (know_debt m K c (i :: l) (.dma (aS i)) (by unfold lv; rw [kind_a]; decide)); iexact HK
  iintro ⟨⟨Ha, Hh⟩, Hv, HO⟩
  iapply (wp_load_own c (m := aV) (r := aR i) (fun _ => rfl)) $$ Ha
  iintro Ha
  iapply (wp_load_bf c) $$ Hb
  iintro Hb
  iapply (wp_load_own c (m := pV) (r := rR i) (fun _ => rfl)) $$ Hp
  iintro Hp
  iapply (wp_store_own c (m := pV) (r := rR i) (fun _ => rfl)) $$ Hp
  iintro Hp
  ihave Hp2 := (own_split c (pVw i) _) $$ Hp
  icases Hp2 with ⟨Hl, Hr⟩
  iapply (wp_send_chunk m K c i l) $$ [Hl Hc HO Ht Ht']
  · isplitr; · iexact HK
    isplitl [Hl]; · iexact Hl
    isplitl [Hc]; · iexact Hc
    isplitl [HO]; · unfold owing; iexists _; iexact HO
    isplitl [Ht] <;> iassumption
  iintro ⟨Hc, HO⟩
  iapply (wp_done c)
  unfold aAfter mulAfter
  isplitl [Hh Ha Hv Hr Hc]
  · isplitl [Hh Ha Hv]
    · isplitl [Hh]; · iexact Hh
      isplitl [Ha]; · iexists _; iexact Ha
      iexact Hv
    isplitl [Hr]; · iexact Hr
    iexact Hc
  isplitr; · iexact HK
  isplitl [Hb]; · iexact Hb
  unfold owing
  iexact HO

/-! ## The sums -/

/-- Chunk `i` of the result at rest, and the right to wait for the peer's chunk. -/
def addBefore (i : Fin 8) : sProp 𝕄 :=
  iprop(cred (tallyAt (rcvC c i) () N) ∗ atPos ER (rcvC c i) 0 ∅ 0 ∗ some' c (oVw i) ∗ some' c (oHw i) ∗ idle c (oS i))
/-- Chunk `i` of the result under way. -/
def oFly (i : Fin 8) : sProp 𝕄 :=
  Fly c (oS i) (oHw i).view.dmaCredit iprop(own c (oHw i) fullShare (sC m c i) ∗ own c (oVw i) fullShare (sC m c i))
/-- Chunk `i` of the sum: computed from both partial products. -/
def addAfter (i : Fin 8) : sProp 𝕄 :=
  iprop(own c (pVw i) fullShare.right (pC m c i) ∗ some' c (cVw i) ∗ semVal (rcvC c i) 0 ∗ oFly m c i)

/-- Chunk `i`: the peer's has arrived, and the sum is on its way out. -/
theorem add_spec (i : Fin 8) (l : List (Fin 8)) :
    iprop((own c (pVw i) fullShare.right (pC m c i) ∗ addBefore c i) ∗ (know m K ∗ owing c []))
      ⊢ WP c (addP (F := F) i) fun _ => iprop(addAfter m c i ∗ (know m K ∗ owing c [])) := by
  unfold addP addBefore
  iintro ⟨⟨Hp, Hc, Hat, ⟨%Y, Ho⟩, ⟨%Z, Hh⟩, Hv⟩, #HK, HO⟩
  iapply (wp_talk m K c (1, i) (vS i) rfl (src := pVw i) (dst := cVw i) rfl) $$ [Hc HO Hat]
  · isplitr; · iexact HK
    isplitl [Hc]; · iexact Hc
    isplitl [HO] <;> iassumption
  iintro ⟨HO, Hz, Hq⟩
  unfold pay rcvPay
  iapply (wp_load_own c (m := pV) (r := rR i) (fun _ => rfl)) $$ Hp
  iintro Hp
  iapply (wp_load_own c (m := cV) (r := rR i) (fun _ => rfl)) $$ Hq
  iintro Hq
  iapply (wp_load_own c (m := oV) (r := rR i) (fun _ => rfl)) $$ Ho
  iintro Ho
  iapply (wp_store_own c (m := oV) (r := rR i) (fun _ => rfl)) $$ Ho
  iintro Ho
  iapply (wp_copy_own c (View.dmaCredit_pos _ (by decide))) $$ [Ho Hh Hv]
  · isplitl [Ho]; · iexact Ho
    isplitl [Hh] <;> iassumption
  iintro Hf
  iapply (wp_done c)
  unfold addAfter oFly sC
  isplitl [Hp Hq Hz Hf]
  · isplitl [Hp]; · iexact Hp
    isplitl [Hq]; · iexists _; iexact Hq
    isplitl [Hz] <;> iassumption
  isplitr; · iexact HK
  iexact HO

/-! ## The end -/

/-- The right to wait until chunk `i` has left. -/
def drainBefore (i : Fin 8) : sProp 𝕄 := iprop(cred (tallyAt (sndC c i) () N) ∗ atPos ER (sndC c i) 0 ∅ 0)
/-- Chunk `i` when everything is done. -/
def drainAfter (i : Fin 8) : sProp 𝕄 :=
  iprop(own c (pVw i) fullShare.left (pC m c i) ∗ semVal (sndC c i) 0 ∗ own c (oHw i) fullShare (sC m c i) ∗ some' c (oVw i) ∗ idle c (oS i))

/-- Chunk `i` has left, and its sum is written. -/
theorem drain_spec (i : Fin 8) (l : List (Fin 8)) :
    iprop((drainBefore c i ∗ oFly m c i) ∗ (know m K ∗ owing c []))
      ⊢ WP c (drainP (F := F) i) fun _ => iprop(drainAfter m c i ∗ (know m K ∗ owing c [])) := by
  unfold drainP drainBefore oFly
  iintro ⟨⟨⟨Hc, Hat⟩, Hf⟩, #HK, HO⟩
  iapply (wp_talk m K c (0, i) (sS i) rfl (src := cVw i) (dst := pVw i) rfl) $$ [Hc HO Hat]
  · isplitr; · iexact HK
    isplitl [Hc]; · iexact Hc
    isplitl [HO] <;> iassumption
  iintro ⟨HO, Hz, Hq⟩
  unfold owing
  icases HO with ⟨%W, HO⟩
  iapply (wp_await_own c) $$ [Hf HO]
  · isplitl [Hf]; · iexact Hf
    isplitl [HO]; · iexact HO
    iapply (know_debt m K c [] (.dma (oS i)) (by unfold lv; rw [kind_o]; decide)); iexact HK
  iintro ⟨⟨Hh, Ho⟩, Hv, HO⟩
  iapply (wp_done c)
  unfold drainAfter pay sndPay
  isplitl [Hq Hz Hh Ho Hv]
  · isplitl [Hq]; · iexact Hq
    isplitl [Hz]; · iexact Hz
    isplitl [Hh]; · iexact Hh
    isplitl [Ho]; · iexists _; iexact Ho
    iexact Hv
  isplitr; · iexact HK
  iexists _; iexact HO

end Cert.Proof

end
-- ==== Proof.Body.lean ====
module

public import proofs.«01_k».proof.Proof.Steps

/-!
# The whole body

The buffers are cut into the eight chunks' windows, the statement groups run one after another, and the windows
are put together again.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The windows of a buffer -/

/-- Rectangles that tile a shape: unit strides, no overlap, nothing left over. -/
structure Tiling {s : Shape} (r : Fin 8 → Rect s) : Prop where
  unit : ∀ t a, (r t).stride a = 1
  apart : ∀ t t', t ≠ t' → Disjoint (r t).set (r t').set
  cover : (Finset.univ : Finset (Fin 8)).biUnion (fun t => (r t).set) = Finset.univ

/-- The row chunks of a block of `A` tile it. -/
theorem tiling_aR : Tiling aR where
  unit _ _ := rfl
  apart t t' h := Rect.unit_disjoint (0 : Fin 2) (by
    have h' : t.val ≠ t'.val := fun e => h (Fin.ext e)
    change 192 * t.val + 192 ≤ 192 * t'.val ∨ 192 * t'.val + 192 ≤ 192 * t.val
    omega)
  cover := by
    ext x
    refine ⟨fun _ => Finset.mem_univ _, fun _ => Finset.mem_biUnion.mpr ?_⟩
    have h0 : (x 0).val < 1536 := (x 0).isLt
    have h1 : (x 1).val < 768 := (x 1).isLt
    refine ⟨⟨(x 0).val / 192, by omega⟩, Finset.mem_univ _, Rect.mem_set_unit.mpr (Fin.forall_fin_two.mpr ⟨?_, ?_⟩)⟩
    · change 192 * ((x 0).val / 192) ≤ (x 0).val ∧ (x 0).val < 192 * ((x 0).val / 192) + 192
      omega
    · change 0 ≤ (x 1).val ∧ (x 1).val < 0 + 768
      omega

/-- The row chunks of a product tile it. -/
theorem tiling_rR : Tiling rR where
  unit _ _ := rfl
  apart t t' h := Rect.unit_disjoint (0 : Fin 2) (by
    have h' : t.val ≠ t'.val := fun e => h (Fin.ext e)
    change 192 * t.val + 192 ≤ 192 * t'.val ∨ 192 * t'.val + 192 ≤ 192 * t.val
    omega)
  cover := by
    ext x
    refine ⟨fun _ => Finset.mem_univ _, fun _ => Finset.mem_biUnion.mpr ?_⟩
    have h0 : (x 0).val < 1536 := (x 0).isLt
    have h1 : (x 1).val < 1536 := (x 1).isLt
    refine ⟨⟨(x 0).val / 192, by omega⟩, Finset.mem_univ _, Rect.mem_set_unit.mpr (Fin.forall_fin_two.mpr ⟨?_, ?_⟩)⟩
    · change 192 * ((x 0).val / 192) ≤ (x 0).val ∧ (x 0).val < 192 * ((x 0).val / 192) + 192
      omega
    · change 0 ≤ (x 1).val ∧ (x 1).val < 0 + 1536
      omega

section Glue
variable {s : Shape} {r : Fin 8 → Rect s} (T : Tiling r) {V : Type}
include T

/-- Every index lies in a chunk. -/
theorem Tiling.index (x : s.Idx) : ∃ i, ∃ j, (r i).emb j = x := by
  have hx : x ∈ (Finset.univ : Finset (Fin 8)).biUnion fun t => (r t).set := by rw [T.cover]; exact Finset.mem_univ _
  obtain ⟨i, -, hi⟩ := Finset.mem_biUnion.mp hx
  exact ⟨i, (r i).exists_idx_of_mem hi⟩

/-- Contents given chunk by chunk are contents of the whole. -/
theorem Tiling.glue (p : (i : Fin 8) → (r i).shape.Idx → V) : ∃ G : s.Idx → V, ∀ i j, G ((r i).emb j) = p i j := by
  refine ⟨fun x => p (T.index x).choose (T.index x).choose_spec.choose, fun i j => ?_⟩
  have key : ∀ i' j', (r i').emb j' = (r i).emb j → p i' j' = p i j := by
    intro i' j' h
    have hi : i' = i := by
      by_contra hne
      refine Finset.disjoint_left.mp (T.apart i' i hne) ((r i').idx_mem j') ?_
      exact (show (r i').idx j' = (r i).idx j from h) ▸ (r i).idx_mem j
    subst hi
    rw [(r i').emb.injective h]
  exact key _ _ (T.index ((r i).emb j)).choose_spec.choose_spec

end Glue

section Windows
variable (c : Dev nD) {sp : Space} {s : Shape} {e : EltTy} (v : Memref sig .tc sp s e) {r : Fin 8 → Rect s} (T : Tiling r)

/-- A buffer is its windows. -/
theorem cut (X : s.Idx → Elt F e) : (own c v fullShare X : sProp 𝕄)
    ⊢ bigSep Finset.univ fun i => own c (v.slice (r i) (T.unit i)) fullShare fun j => X ((r i).emb j) :=
  owns_rects (c : Thread nD τ) v fullShare r T.unit T.apart T.cover X

/-- The windows are the buffer. -/
theorem join (X : s.Idx → Elt F e) :
    (bigSep Finset.univ fun i => own c (v.slice (r i) (T.unit i)) fullShare fun j => X ((r i).emb j))
      ⊢ (own c v fullShare X : sProp 𝕄) :=
  owns_of_rects (c : Thread nD τ) v fullShare r T.unit T.apart T.cover X

/-- A buffer at some contents is its windows at some contents. -/
theorem cut' : (some' c v : sProp 𝕄) ⊢ bigSep Finset.univ fun i => some' c (v.slice (r i) (T.unit i)) := by
  iintro ⟨%X, H⟩
  ihave H' := (cut c v T X) $$ H
  iapply (show (bigSep Finset.univ fun i => own c (v.slice (r i) (T.unit i)) fullShare fun j => X ((r i).emb j))
    ⊢ (bigSep Finset.univ fun i => some' c (v.slice (r i) (T.unit i)) : sProp 𝕄) from
      bigSep_mono fun i _ => show iprop(own c (v.slice (r i) (T.unit i)) fullShare fun j => X ((r i).emb j))
          ⊢ (some' c (v.slice (r i) (T.unit i)) : sProp 𝕄) from by iintro H; iexists (fun j => X ((r i).emb j)); iexact H) $$ H'

/-- Windows at some contents are the buffer at some contents. -/
theorem join' : (bigSep Finset.univ fun i => some' c (v.slice (r i) (T.unit i))) ⊢ (some' c v : sProp 𝕄) := by
  refine (BI.bigSep_exists_pi Finset.univ fun i (X : (r i).shape.Idx → Elt F e) =>
    (own c (v.slice (r i) (T.unit i)) fullShare X : sProp 𝕄)).trans ?_
  iintro ⟨%p, H⟩
  obtain ⟨G, hG⟩ := T.glue p
  iexists G
  iapply (join c v T G)
  rw [show (fun i => own c (v.slice (r i) (T.unit i)) fullShare fun j => G ((r i).emb j))
      = fun i => (own c (v.slice (r i) (T.unit i)) fullShare (p i) : sProp 𝕄) from
    funext fun i => by rw [show (fun j => G ((r i).emb j)) = p i from funext (hG i)]]
  iexact H

end Windows

/-! ## The result -/

section Run
variable (m : (ℓ : Loc nD τ sig) → Buf (Elt F) ℓ) (K : Dev nD × Talk → ℕ) (c : Dev nD)

/-- What device `c` writes: the sums, chunk by chunk. -/
def outC : S1536x1536.Idx → Elt F .f32 := (tiling_rR.glue fun i => (sC m c i : (rR i).shape.Idx → Elt F .f32)).choose

/-- Its chunk `i` is the sum of chunk `i`. -/
theorem outC_emb (i : Fin 8) (j : S192x1536.Idx) : outC m c ((rR i).emb j) = sC m c i j :=
  (tiling_rR.glue fun i => (sC m c i : (rR i).shape.Idx → Elt F .f32)).choose_spec i j

/-! ## The run -/

/-- The device's rights to talk: the duties it pays, its places at its own semaphores, and the credit for what others
    owe them. -/
def talk : sProp 𝕄 :=
  iprop((dutyTok ER (barC (peer c)) 0 () ∗ atPos ER (barC c) 0 ∅ 0 ∗ cred (tallyAt (barC c) () 1))
    ∗ (bigSep Finset.univ fun i : Fin 8 => dutyTok ER (sndC c i) 0 ())
    ∗ (bigSep Finset.univ fun i : Fin 8 => dutyTok ER (rcvC (peer c) i) 0 ())
    ∗ (bigSep Finset.univ fun i : Fin 8 => atPos ER (sndC c i) 0 ∅ 0)
    ∗ (bigSep Finset.univ fun i : Fin 8 => atPos ER (rcvC c i) 0 ∅ 0)
    ∗ (bigSep Finset.univ fun i : Fin 8 => cred (tallyAt (rcvC c i) () N)))

/-- Its scratch buffers, at any contents. -/
def scratch : sProp 𝕄 := iprop(some' c aV ∗ some' c bV ∗ some' c bfV ∗ some' c pV ∗ some' c cV ∗ some' c oV)

/-- The semaphores of its local copies, idle. -/
def quiet : sProp 𝕄 :=
  iprop(idle c bS ∗ (bigSep Finset.univ fun i => idle c (aS i)) ∗ (bigSep Finset.univ fun i => idle c (oS i)))

/-- Its talking semaphores, at zero. -/
def silent : sProp 𝕄 :=
  iprop(semVal (barC c) 0 ∗ (bigSep Finset.univ fun i => semVal (sndC c i) 0) ∗ (bigSep Finset.univ fun i => semVal (rcvC c i) 0))

/-- The arguments, and the result at contents `X`. -/
def arrays (X : S1536x1536.Idx → Elt F .f32) : sProp 𝕄 :=
  iprop(own c aH fullShare (aC m c) ∗ own c bH fullShare (bC m c) ∗ own c oH fullShare X)

/-- A statement of the body, run with what it needs, before the rest of the body. -/
theorem wp_first {p k : Prog (Eff F) PUnit} {P P' : sProp 𝕄} {Q : PUnit → sProp 𝕄} (h : P ⊢ WP c p fun _ => P') :
    P ⊢ iprop((P' -∗ WP c k Q) -∗ WP c (p >>= fun _ => k) Q) := by
  iintro H Hk
  iapply (wp_then c (p := p) (k := k) (P := iprop(P ∗ (P' -∗ WP c k Q))) (P' := iprop(P' ∗ (P' -∗ WP c k Q))) ?_ ?_) $$ [H Hk]
  · iintro ⟨H, Hk⟩
    ihave Hw := h $$ H
    iapply (wp_wand_r) $$ [Hw Hk]
    isplitl [Hw]; · iexact Hw
    iintro %a H
    isplitl [H] <;> iassumption
  · iintro ⟨H, Hk⟩
    iapply Hk $$ H
  · isplitl [H] <;> iassumption

/-- What the body takes. -/
def bodyIn : sProp 𝕄 :=
  iprop(know m K ∗ (∃ W, owes (c : Thread nD τ) (owed₀ c) W) ∗ talk c ∗ (∃ X, arrays m c X) ∗ scratch c ∗ quiet c)

/-- What it leaves. -/
def bodyOut : sProp 𝕄 := iprop(owing c [] ∗ silent c ∗ arrays m c (outC m c) ∗ scratch c ∗ quiet c)

/-- What the chunks' loops need, grouped chunk by chunk. -/
theorem group_a : iprop((bigSep Finset.univ fun i => own c (aHw i) fullShare (aC' m c i)) ∗ (bigSep Finset.univ fun i => some' c (aVw i))
    ∗ bigSep Finset.univ fun i => idle c (aS i)) = (bigSep Finset.univ (aBefore m c) : sProp 𝕄) := by
  rw [← bigSep_sep', ← bigSep_sep']; rfl

/-- What the loop of products needs, grouped chunk by chunk. -/
theorem group_mul : iprop((bigSep Finset.univ (aFly m c)) ∗ (bigSep Finset.univ fun i => some' c (pVw i))
    ∗ (bigSep Finset.univ fun i => some' (peer c) (cVw i)) ∗ (bigSep Finset.univ fun i => dutyTok ER (sndC c i) 0 ())
    ∗ (bigSep Finset.univ fun i => dutyTok ER (rcvC (peer c) i) 0 ()))
      = (bigSep Finset.univ fun i => iprop(aFly m c i ∗ mulBefore c i) : sProp 𝕄) := by
  rw [← bigSep_sep', ← bigSep_sep', ← bigSep_sep', ← bigSep_sep']; rfl

/-- What the loop of products leaves, regrouped by kind. -/
theorem group_mulled : (bigSep Finset.univ fun i => iprop(aAfter m c i ∗ mulAfter m c i) : sProp 𝕄)
    = iprop(bigSep Finset.univ (aBefore m c)
        ∗ (bigSep Finset.univ fun i => own c (pVw i) fullShare.right (pC m c i)) ∗ bigSep Finset.univ fun i => cred (tallyAt (sndC c i) () N)) := by
  rw [← bigSep_sep', ← bigSep_sep']; rfl

/-- What the loop of sums needs, grouped chunk by chunk. -/
theorem group_add : iprop((bigSep Finset.univ fun i => own c (pVw i) fullShare.right (pC m c i))
    ∗ (bigSep Finset.univ fun i => cred (tallyAt (rcvC c i) () N)) ∗ (bigSep Finset.univ fun i => atPos ER (rcvC c i) 0 ∅ 0)
    ∗ (bigSep Finset.univ fun i => some' c (oVw i)) ∗ (bigSep Finset.univ fun i => some' c (oHw i))
    ∗ (bigSep Finset.univ fun i => idle c (oS i)))
      = (bigSep Finset.univ fun i => iprop(own c (pVw i) fullShare.right (pC m c i) ∗ addBefore c i) : sProp 𝕄) := by
  rw [← bigSep_sep', ← bigSep_sep', ← bigSep_sep', ← bigSep_sep', ← bigSep_sep']; rfl

/-- What the loop of sums leaves, regrouped by kind. -/
theorem group_added : (bigSep Finset.univ (addAfter m c) : sProp 𝕄)
    = iprop((bigSep Finset.univ fun i => own c (pVw i) fullShare.right (pC m c i)) ∗ (bigSep Finset.univ fun i => some' c (cVw i))
        ∗ (bigSep Finset.univ fun i => semVal (rcvC c i) 0) ∗ bigSep Finset.univ (oFly m c)) := by
  rw [← bigSep_sep', ← bigSep_sep', ← bigSep_sep']; rfl

/-- What the last loop needs, grouped chunk by chunk. -/
theorem group_drain : iprop((bigSep Finset.univ fun i => cred (tallyAt (sndC c i) () N))
    ∗ (bigSep Finset.univ fun i => atPos ER (sndC c i) 0 ∅ 0) ∗ bigSep Finset.univ (oFly m c))
      = (bigSep Finset.univ fun i => iprop(drainBefore c i ∗ oFly m c i) : sProp 𝕄) := by
  rw [bigSep_sep']
  unfold drainBefore
  rw [bigSep_sep']
  exact equiv_iff.mp ⟨BI.sep_assoc', BI.sep_assoc⟩

/-- What the last loop leaves, regrouped by kind. -/
theorem group_drained : (bigSep Finset.univ (drainAfter m c) : sProp 𝕄)
    = iprop((bigSep Finset.univ fun i => own c (pVw i) fullShare.left (pC m c i)) ∗ (bigSep Finset.univ fun i => semVal (sndC c i) 0)
        ∗ (bigSep Finset.univ fun i => own c (oHw i) fullShare (sC m c i)) ∗ (bigSep Finset.univ fun i => some' c (oVw i))
        ∗ bigSep Finset.univ fun i => idle c (oS i)) := by
  rw [← bigSep_sep', ← bigSep_sep', ← bigSep_sep', ← bigSep_sep']; rfl

/-- Both halves of the own product's chunks are the whole of it. -/
theorem halves : iprop((bigSep Finset.univ fun i => own c (pVw i) fullShare.left (pC m c i))
    ∗ bigSep Finset.univ fun i => own c (pVw i) fullShare.right (pC m c i)) ⊢ (some' c pV : sProp 𝕄) := by
  rw [← bigSep_sep']
  exact (bigSep_mono fun i _ => own_join c (pVw i) (pC m c i) (pC m c i)).trans (join' c pV tiling_rR)

/-- The sums' chunks are the result. -/
theorem result : (bigSep Finset.univ fun i => own c (oHw i) fullShare (sC m c i)) ⊢ (own c oH fullShare (outC m c) : sProp 𝕄) := by
  have h := join c oH tiling_rR (outC m c)
  rw [show (fun i => own c (oH.slice (rR i) (tiling_rR.unit i)) fullShare fun j => outC m c ((rR i).emb j))
      = fun i => (own c (oHw i) fullShare (sC m c i) : sProp 𝕄) from
    funext fun i => by rw [show (fun j => outC m c ((rR i).emb j)) = sC m c i from funext (outC_emb m c i)]] at h
  exact h

/-- The body of device `c`, from start to end. -/
theorem body_spec : bodyIn m K c ⊢ WP c (prog (F := F) (peer c) fun _ => peer c) fun _ => bodyOut m c := by
  unfold bodyIn bodyOut talk arrays scratch quiet silent prog
  iintro ⟨#HK, ⟨%W, HO⟩, ⟨⟨Htb, Hpb, Hcb⟩, Hts, Htr, Hps, Hpr, Hcr⟩, ⟨%X, HaH, HbH, HoH⟩, ⟨HaV, HbV, HbfV, HpV, HcV, HoV⟩, Hib, Hia, Hio⟩
  ihave HaH := (show own c aH fullShare (aC m c) ⊢ (bigSep Finset.univ fun i => own c (aHw i) fullShare (aC' m c i) : sProp 𝕄) from
    cut c aH tiling_aR (aC m c)) $$ HaH
  ihave HaV := (show some' c aV ⊢ (bigSep Finset.univ fun i => some' c (aVw i) : sProp 𝕄) from cut' c aV tiling_aR) $$ HaV
  ihave HpV := (show some' c pV ⊢ (bigSep Finset.univ fun i => some' c (pVw i) : sProp 𝕄) from cut' c pV tiling_rR) $$ HpV
  ihave HcV := (show some' c cV ⊢ (bigSep Finset.univ fun i => some' c (cVw i) : sProp 𝕄) from cut' c cV tiling_rR) $$ HcV
  ihave HoV := (show some' c oV ⊢ (bigSep Finset.univ fun i => some' c (oVw i) : sProp 𝕄) from cut' c oV tiling_rR) $$ HoV
  ihave HoH := (show own c oH fullShare X ⊢ (some' c oH : sProp 𝕄) from by iintro H; iexists X; iexact H) $$ HoH
  ihave HoH := (show some' c oH ⊢ (bigSep Finset.univ fun i => some' c (oHw i) : sProp 𝕄) from cut' c oH tiling_rR) $$ HoH
  -- the handshake
  iapply (wp_first c (barrier_spec m K c W)) $$ [HO Htb Hpb Hcb HcV]
  · iframe ∗ #
  iintro ⟨HO, Hzb, HcV'⟩
  -- the copies in
  iapply (wp_first c (bStart_spec m c)) $$ [HbH HbV Hib]
  · iframe ∗
  iintro HbF
  ihave HA := (Entails.of_eq (group_a m c)) $$ [HaH HaV Hia]
  · iframe ∗
  iapply (wp_first c (wp_chunks c (R := fun _ => iprop(emp)) (P := aBefore m c) (Q := aFly m c) fun i l => by
    iintro ⟨H, -⟩
    iapply (wp_wand_r)
    isplitl [H]; · iapply (aStart_spec m c i) $$ H
    iintro %a H
    isplitl [H]; · iexact H
    iempintro)) $$ [HA]
  · isplitl [HA]; · iexact HA
    iempintro
  iintro ⟨HA, -⟩
  iapply (wp_first c (bConv_spec m K c)) $$ [HbF HbfV HO]
  · iframe ∗ #
  iintro ⟨⟨HbH, HbV, Hib⟩, HbfV, HO⟩
  -- the products
  ihave HM := (Entails.of_eq (group_mul m c)) $$ [HA HpV HcV' Hts Htr]
  · iframe ∗
  iapply (wp_first c (wp_chunks c (R := fun l => iprop(know m K ∗ own c bfV fullShare (k0_pay1 (bC m c)) ∗ owing c l)) (mul_spec m K c))) $$ [HM HbfV HO]
  · iframe ∗ #
  iintro ⟨HM, -, HbfV, HO⟩
  ihave HM := (Entails.of_eq (group_mulled m c)) $$ HM
  icases HM with ⟨HA, HpR, Hcs⟩
  ihave HA := (Entails.of_eq (group_a m c).symm) $$ HA
  icases HA with ⟨HaH, HaV, Hia⟩
  -- the sums
  ihave HS := (Entails.of_eq (group_add m c)) $$ [HpR Hcr Hpr HoV HoH Hio]
  · iframe ∗
  iapply (wp_first c (wp_chunks c (R := fun l => iprop(know m K ∗ owing c [])) (add_spec m K c))) $$ [HS HO]
  · iframe ∗ #
  iintro ⟨HS, -, HO⟩
  ihave HS := (Entails.of_eq (group_added m c)) $$ HS
  icases HS with ⟨HpR, HcV, Hzr, HoF⟩
  -- the end
  ihave HD := (Entails.of_eq (group_drain m c)) $$ [Hcs Hps HoF]
  · iframe ∗
  ihave Hw := (wp_chunks c (R := fun l => iprop(know m K ∗ owing c [])) (drain_spec m K c)) $$ [HD HO]
  · iframe ∗ #
  iapply (wp_wand_r)
  isplitl [Hw]; · iexact Hw
  iintro %a ⟨HD, -, HO⟩
  ihave HD := (Entails.of_eq (group_drained m c)) $$ HD
  icases HD with ⟨HpL, Hzs, HoH, HoV, Hio⟩
  ihave HaH := (show (bigSep Finset.univ fun i => own c (aHw i) fullShare (aC' m c i)) ⊢ (own c aH fullShare (aC m c) : sProp 𝕄) from
    join c aH tiling_aR (aC m c)) $$ HaH
  ihave HaV := (show (bigSep Finset.univ fun i => some' c (aVw i)) ⊢ (some' c aV : sProp 𝕄) from join' c aV tiling_aR) $$ HaV
  ihave HpV := (halves m c) $$ [HpL HpR]
  · iframe ∗
  ihave HcV := (show (bigSep Finset.univ fun i => some' c (cVw i)) ⊢ (some' c cV : sProp 𝕄) from join' c cV tiling_rR) $$ HcV
  ihave HoV := (show (bigSep Finset.univ fun i => some' c (oVw i)) ⊢ (some' c oV : sProp 𝕄) from join' c oV tiling_rR) $$ HoV
  ihave HoH := (result m c) $$ HoH
  ihave HbfV := (show own c bfV fullShare (k0_pay1 (bC m c)) ⊢ (some' c bfV : sProp 𝕄) from by iintro H; iexists (k0_pay1 (bC m c)); iexact H) $$ HbfV
  isplitl [HO]; · iexact HO
  isplitl [Hzb Hzs Hzr]; · iframe ∗
  isplitl [HaH HbH HoH]; · iframe ∗
  isplitl [HaV HbV HbfV HpV HcV HoV]; · iframe ∗
  iframe ∗

end Run

end Cert.Proof

end
-- ==== Proof.Whole.lean ====
module

public import proofs.«01_k».proof.Proof.Body
public import Idealize.ShloMosaic.Lib.Quiescent
public import Idealize.ShloMosaic.Lib.Pipeline.CollectiveSegs

/-!
# The whole machine

From any memory and with every semaphore at zero, the four devices run the body together: the talking semaphores'
invariants are set up, each device is handed its rights, and in the end each result is read off the memory.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of semaphores -/

section Families
omit [FloatOps F]

/-- A family over an option: the one for `none`, and the others. -/
theorem all_option {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by
      ext x; cases x <;> simp, bigSep_insert (by simp), bigSep_map]
  rfl

/-- A family over the talking semaphores: the barrier's, the leaving chunks' and the arriving chunks'. -/
theorem all_talk (Φ : Talk → sProp 𝕄) :
    bigSep Finset.univ Φ = iprop(Φ none ∗ (bigSep Finset.univ fun i => Φ (some (0, i))) ∗ bigSep Finset.univ fun i => Φ (some (1, i))) := by
  rw [all_option, bigSep_univ_prod, bigSep_fin_two]; rfl

/-- The kernel's own semaphores: that of `B`'s copy in, and four for each chunk. -/
def osem : Option (Fin 4 × Fin 8) → SemLoc sig
  | none => .dma bS
  | some (0, i) => .dma (aS i)
  | some (1, i) => .dma (oS i)
  | some (2, i) => .dma (sS i)
  | some (3, i) => .dma (vS i)

/-- The list of the kernel's own semaphores names each of them once. -/
theorem ownSemFacts : Pipeline.OwnSemFacts cfg0.spec osem := by decide

/-- At zero, a device's own semaphores are those of its local copies, idle, and those of its chunks' transfers. -/
theorem own_sems (c : Dev nD) :
    (Pipeline.ownSems0 (Ix := Unit) (Name := ℕ) (U := UU) (Lvl := ℕ) (Val := Elt F) (τ := τ) osem c : sProp 𝕄)
      = iprop(idle c bS ∗ (bigSep Finset.univ fun i => idle c (aS i)) ∗ (bigSep Finset.univ fun i => idle c (oS i))
          ∗ (bigSep Finset.univ fun i => semVal (sndC c i) 0) ∗ bigSep Finset.univ fun i => semVal (rcvC c i) 0) := by
  unfold Pipeline.ownSems0
  rw [all_option, bigSep_univ_prod, bigSep_univ_eq_bigSepL [0, 1, 2, 3] (by decide) (by decide)]
  rfl

/-- The one semaphore that is not the kernel's own is the barrier's. -/
theorem other_sems (c : Dev nD) : (unscopedSems0 c : sProp 𝕄) = semVal (barC c) 0 := by
  unfold unscopedSems0
  rw [bigSep_eq_bigSepL_of_eq [SemLoc.reg barr] (by decide) (by decide)]
  rfl

end Families

/-- A device's semaphores at zero: the local copies' and the talking ones. -/
theorem sems_apart (c : Dev nD) :
    iprop(Pipeline.ownSems0 (Ix := Unit) (Name := ℕ) (U := UU) (Lvl := ℕ) (Val := Elt F) (τ := τ) osem c ∗ unscopedSems0 c)
      ⊢ (iprop(quiet c ∗ silent c) : sProp 𝕄) := by
  rw [own_sems, other_sems]
  unfold quiet silent
  iintro ⟨⟨Hb, Ha, Ho, Hs, Hv⟩, Hbar⟩
  iframe ∗

/-- The converse. -/
theorem sems_together (c : Dev nD) :
    (iprop(quiet c ∗ silent c) : sProp 𝕄)
      ⊢ iprop(Pipeline.ownSems0 (Ix := Unit) (Name := ℕ) (U := UU) (Lvl := ℕ) (Val := Elt F) (τ := τ) osem c ∗ unscopedSems0 c) := by
  rw [own_sems, other_sems]
  unfold quiet silent
  iintro ⟨⟨Hb, Ha, Ho⟩, Hbar, Hs, Hv⟩
  iframe ∗

/-! ## Setting up the protocol -/

/-- Every talking semaphore of the machine. -/
def cells : Finset (GSem nD τ sig) :=
  Finset.univ.map ⟨fun ck : Dev nD × Talk => cell ck.1 ck.2, fun _ _ h => Prod.ext (cell_inj h).1 (cell_inj h).2⟩

/-- Each one's only duty. -/
def duties : Finset (GSem nD τ sig × ℕ × Unit) :=
  Finset.univ.map ⟨fun ck : Dev nD × Talk => (cell ck.1 ck.2, 0, ()),
    fun _ _ h => Prod.ext (cell_inj (congrArg Prod.fst h)).1 (cell_inj (congrArg Prod.fst h)).2⟩

/-- The ghost state at the start. -/
def ghost₀ : UU :=
  (initOf (Pipeline.cells cfgs cellOf_inj) (Pipeline.launchToks cfgs cellOf_inj), (initOf cells duties, 1))

/-- What it deals device `c`. -/
def dealt (c : Dev nD) : sProp 𝕄 :=
  iprop((bigSep Finset.univ fun k : Talk => roundState ER (sched m) (cell c k) 0)
    ∗ (bigSep Finset.univ fun k : Talk => atPos ER (cell c k) 0 ∅ 0) ∗ (bigSep Finset.univ fun k : Talk => reached ER (cell c k) 0)
    ∗ bigSep Finset.univ fun k : Talk => dutyTok ER (cell c k) 0 ())

/-- The starting element of the rounds gives every device its talking semaphores and duties. -/
theorem fund : BI.own (ER (initOf cells duties)) ⊢ (|==> bigSep Finset.univ (dealt m) : sProp 𝕄) := by
  have hc (Φ : GSem nD τ sig → sProp 𝕄) :
      bigSep cells Φ = bigSep Finset.univ fun c : Dev nD => bigSep Finset.univ fun k : Talk => Φ (cell c k) := by
    unfold cells; rw [bigSep_map, bigSep_univ_prod]; rfl
  have hd : bigSep duties (fun x => (dutyTok ER x.1 x.2.1 x.2.2 : sProp 𝕄))
      = bigSep Finset.univ fun c : Dev nD => bigSep Finset.univ fun k : Talk => dutyTok ER (cell c k) 0 () := by
    unfold duties; rw [bigSep_map, bigSep_univ_prod]; rfl
  unfold dealt
  rw [bigSep_sep', bigSep_sep', bigSep_sep', ← hc fun g => roundState ER (sched m) g 0, ← hc fun g => atPos ER g 0 ∅ 0,
    ← hc fun g => reached ER g 0, ← hd]
  iintro H
  imod (Rounds.fund ER (sched m) cells duties) $$ H with ⟨Hst, Hr, Hat, Ht⟩
  imodintro
  iframe ∗

/-- What a device keeps: its places, the duties it pays, and its quiet semaphores. -/
def kept (c : Dev nD) : sProp 𝕄 :=
  iprop((bigSep Finset.univ fun k : Talk => atPos ER (cell c k) 0 ∅ 0)
    ∗ (dutyTok ER (barC (peer c)) 0 () ∗ (bigSep Finset.univ fun i => dutyTok ER (sndC c i) 0 ())
        ∗ bigSep Finset.univ fun i => dutyTok ER (rcvC (peer c) i) 0 ())
    ∗ quiet c)

/-- What a device starts with, besides credit and order. -/
def rights (c : Dev nD) : sProp 𝕄 := iprop(∃ K, records m K ∗ kept c)

/-- A device's talking semaphores get their invariants. -/
theorem device_setup (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched m) κ (cell c k)))
          ∗ (bigSep Finset.univ fun k => reached ER (cell c k) 0) ∗ (bigSep Finset.univ fun k : Talk => atPos ER (cell c k) 0 ∅ 0)
          ∗ (bigSep Finset.univ fun k : Talk => dutyTok ER (cell c k) 0 ()) ∗ quiet c) := by
  unfold dealt
  iintro ⟨Ho, Hu, Hst, Hat, Hr, Ht⟩
  ihave Hs := (sems_apart c) $$ [Ho Hu]
  · iframe ∗
  icases Hs with ⟨Hq, Hs⟩
  ihave Hs := (show silent c ⊢ (bigSep Finset.univ fun k : Talk => semVal (cell c k) 0 : sProp 𝕄) from
    Entails.of_eq (by rw [all_talk]; rfl)) $$ Hs
  imod (show iprop((bigSep Finset.univ fun k : Talk => semVal (cell c k) 0) ∗ bigSep Finset.univ fun k : Talk => roundState ER (sched m) (cell c k) 0)
      ⊢ (|={Set.univ}=> bigSep Finset.univ fun k => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hs Hst] with HI
  · iframe ∗
  imodintro
  iframe ∗

/-- The duties go to the devices that pay them: those of a barrier and of an arrival, to the peer. -/
theorem duties_dealt : (bigSep Finset.univ fun c : Dev nD => bigSep Finset.univ fun k : Talk => (dutyTok ER (cell c k) 0 () : sProp 𝕄))
    = bigSep Finset.univ fun c : Dev nD => iprop(dutyTok ER (barC (peer c)) 0 () ∗ (bigSep Finset.univ fun i => dutyTok ER (sndC c i) 0 ())
        ∗ bigSep Finset.univ fun i => dutyTok ER (rcvC (peer c) i) 0 ()) := by
  rw [show (fun c : Dev nD => bigSep Finset.univ fun k : Talk => (dutyTok ER (cell c k) 0 () : sProp 𝕄))
      = fun c => iprop(dutyTok ER (barC c) 0 () ∗ (bigSep Finset.univ fun i => dutyTok ER (sndC c i) 0 ())
          ∗ bigSep Finset.univ fun i => dutyTok ER (rcvC c i) 0 ()) from funext fun c => all_talk _,
    bigSep_sep', bigSep_sep', bigSep_sep', bigSep_sep',
    bigSep_univ_equiv swap (fun c : Dev nD => (dutyTok ER (barC c) 0 () : sProp 𝕄)),
    bigSep_univ_equiv swap (fun c : Dev nD => (bigSep Finset.univ fun i => dutyTok ER (rcvC c i) 0 () : sProp 𝕄))]
  rfl

/-- What everyone knows goes to everyone. -/
theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  refine (sep_mono_left (BI.bigSep_of_persistent (Finset.univ : Finset (Dev nD)) R)).trans ?_
  rw [← bigSep_sep']
  exact bigSep_mono fun c _ => h c

/-- The devices' invariants, places and duties become every device's rights. -/
theorem share_out :
    (bigSep Finset.univ fun c : Dev nD => iprop((bigSep Finset.univ fun k => iprop(∃ κ : ℕ, cellInv ER (sched m) κ (cell c k)))
          ∗ (bigSep Finset.univ fun k => reached ER (cell c k) 0) ∗ (bigSep Finset.univ fun k : Talk => atPos ER (cell c k) 0 ∅ 0)
          ∗ (bigSep Finset.univ fun k : Talk => dutyTok ER (cell c k) 0 ()) ∗ quiet c) : sProp 𝕄)
      ⊢ bigSep Finset.univ (rights m) := by
  have hkept := (Entails.of_eq (show iprop((bigSep Finset.univ fun c : Dev nD => bigSep Finset.univ fun k : Talk => atPos ER (cell c k) 0 ∅ 0)
      ∗ (bigSep Finset.univ fun c : Dev nD => iprop(dutyTok ER (barC (peer c)) 0 () ∗ (bigSep Finset.univ fun i => dutyTok ER (sndC c i) 0 ())
        ∗ bigSep Finset.univ fun i => dutyTok ER (rcvC (peer c) i) 0 ()))
      ∗ bigSep Finset.univ quiet) = (bigSep Finset.univ kept : sProp 𝕄) from by
    rw [← bigSep_sep', ← bigSep_sep']; rfl))
  rw [bigSep_sep', bigSep_sep', bigSep_sep', bigSep_sep', duties_dealt,
    ← bigSep_univ_prod (fun ck : Dev nD × Talk => iprop(∃ κ : ℕ, cellInv ER (sched m) κ (cell ck.1 ck.2))),
    ← bigSep_univ_prod (fun ck : Dev nD × Talk => (reached ER (cell ck.1 ck.2) 0 : sProp 𝕄))]
  iintro ⟨HI, #HR, Hat, Ht, Hq⟩
  ihave HI := (BI.bigSep_exists_pi Finset.univ fun (ck : Dev nD × Talk) (κ : ℕ) => (cellInv ER (sched m) κ (cell ck.1 ck.2) : sProp 𝕄)) $$ HI
  icases HI with ⟨%K, #HI⟩
  iapply (spread (R := records m K) (Φ := kept) (Ψ := rights m) fun c => by
    unfold rights
    iintro ⟨HK, H⟩
    iexists K
    iframe ∗)
  isplitr
  · unfold records
    isplitr
    · iexact HI
    · iexact HR
  iapply hkept
  iframe ∗

/-- Every device's semaphores together become every device's rights. -/
theorem setup :
    (bigSep Finset.univ fun c => iprop(Pipeline.ownSems0 (Ix := Unit) (Name := ℕ) (U := UU) (Lvl := ℕ) (Val := Elt F) (τ := τ) osem c
        ∗ unscopedSems0 c ∗ dealt m c) : sProp 𝕄) ⊢ |={Set.univ}=> bigSep Finset.univ (rights m) :=
  ((bigSep_mono fun c _ => device_setup m c).trans (bigSep_fupd _ _)).trans (BI.fupd_mono (share_out m))

/-! ## The credit at the start -/

section Credit
omit [FloatOps F]

/-- What device `d` owes for arrivals at device `c` is the chunks it sends there. -/
theorem debt_rcv (d c : Dev nD) (i : Fin 8) (l : List (Fin 8)) : debt d l (rcvC c i) () = if d = peer c then l.count i * N else 0 := by
  induction l with
  | nil => simp [debt]
  | cons j l ih =>
    unfold debt
    rw [Pi.add_apply, Finsupp.add_apply, ih, tallyAt_apply]
    by_cases hd : d = peer c
    · subst hd
      rw [peer_peer, if_pos rfl, if_pos rfl]
      by_cases hj : i = j
      · subst hj; rw [if_pos ⟨rfl, rfl⟩, List.count_cons_self, Nat.succ_mul]
      · rw [if_neg fun h => hj (Prod.ext_iff.mp (Option.some.inj (cell_inj h.1).2)).2, List.count_cons_of_ne (Ne.symm hj), Nat.add_zero]
    · rw [if_neg hd, if_neg hd, if_neg fun h => hd (by rw [← peer_peer d]; exact congrArg peer (cell_inj h.1).1.symm)]

/-- Nobody owes a barrier for a chunk. -/
theorem debt_bar (d c : Dev nD) (l : List (Fin 8)) : debt d l (barC c) () = 0 := by
  by_contra h
  obtain ⟨i, hi⟩ := debt_pos (Nat.pos_of_ne_zero h)
  exact Option.some_ne_none _ (cell_inj hi).2.symm

/-- A barrier is owed its unit by the device's peer alone, -/
theorem owed_bar (d c : Dev nD) : owed₀ d (barC c) () = if d = peer c then 1 else 0 := by
  unfold owed₀
  rw [Pi.add_apply, Finsupp.add_apply, debt_bar, tallyAt_apply, Nat.zero_add]
  by_cases hd : d = peer c
  · subst hd; rw [peer_peer, if_pos ⟨rfl, rfl⟩, if_pos rfl]
  · rw [if_neg hd, if_neg fun h => hd (by rw [← peer_peer d]; exact congrArg peer (cell_inj h.1).1.symm)]

/-- and an arrival its chunk's units. -/
theorem owed_rcv (d c : Dev nD) (i : Fin 8) : owed₀ d (rcvC c i) () = if d = peer c then N else 0 := by
  unfold owed₀
  rw [Pi.add_apply, Finsupp.add_apply, debt_rcv, tallyAt_apply,
    if_neg (fun h => Option.some_ne_none _ (cell_inj h.1).2 : ¬ (rcvC c i = barC (peer d) ∧ () = ())), Nat.add_zero, show chunks.count i = 1 from by revert i; decide, Nat.one_mul]

/-- A semaphore's credit, when only the peer owes it. -/
theorem credit_at (c : Dev nD) (g : GSem nD τ sig) (n : ℕ) (h : ∀ d, owed₀ d g () = if d = peer c then n else 0) :
    tallyOn g (launchCredit (Pipeline.owing owed₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ (peer c) fun _ => n, if_pos (Finset.mem_univ _)]

/-- A device's credit: its barrier's unit, and every chunk that is to arrive. -/
theorem credits (c : Dev nD) : (Pipeline.launchCred owed₀ c : sProp 𝕄)
    ⊢ iprop(cred (tallyAt (barC c) () 1) ∗ bigSep Finset.univ fun i => cred (tallyAt (rcvC c i) () N)) := by
  have hinj : Function.Injective fun o : Option (Fin 8) => csem (o.map fun i => (1, i)) := fun a b h => by
    have := csem_injective h
    cases a <;> cases b <;> simp_all
  unfold Pipeline.launchCred
  refine (show _ ⊢ bigSep (Finset.univ.map ⟨_, hinj⟩) _ from bigSep_subset (Finset.subset_univ _)).trans ?_
  rw [bigSep_map, all_option]
  refine Entails.of_eq (congrArg₂ _ (congrArg _ (credit_at c (barC c) 1 fun d => owed_bar d c)) (congrArg _ (funext fun i => ?_)))
  exact congrArg _ (credit_at c (rcvC c i) N fun d => owed_rcv d c i)

end Credit

/-! ## The body as the launch sees it -/

/-- What a device holds before the body: rights, credit, buffers. -/
def before (c : Dev nD) : sProp 𝕄 :=
  iprop((∃ K, know m K) ∗ talk c ∗ (∃ X, arrays m c X) ∗ scratch c ∗ quiet c)

/-- What it holds after the body. -/
def after (c : Dev nD) : sProp 𝕄 := iprop(silent c ∗ arrays m c (outC m c) ∗ scratch c ∗ quiet c)

/-- The proof data of the one call: no staged window, one point, and what is held and owed before and after it. -/
def dats (_ : Fin 1) (c : Dev nD) : Dat τ (Elt F) Unit ℕ UU ℕ cfg0 c where
  A w := w.elim0
  after w := w.elim0
  Φ t := match t with
    | ⟨0, _⟩ => before m c
    | ⟨_ + 1, _⟩ => after m c
  q _ := fullShare
  owed t := match t with
    | ⟨0, _⟩ => owed₀ c
    | ⟨_ + 1, _⟩ => 0

/-- With no window there is nothing staged. -/
theorem no_window (Φ : Fin cfg0.W → sProp 𝕄) : bigSep Finset.univ Φ = iprop(emp) := bigSep_empty

set_option maxRecDepth 16384 in
/-- The body does what its data say. -/
theorem body_obligation (c : Dev nD) : BodyObligation (dats (F := F) m 0 c) (defs₀ (F := F)) 𝒱₀ () Set.univ := fun t => by
  rw [fin_N0 t, no_window, no_window]
  show iprop(before m c ∗ Pipeline.owesWithin c (owed₀ c) ((dats (F := F) m 0 c).bound () 0) ∗ emp)
    ⊢ WP c (bodyAt0 (F := F) t0_0) fun _ => iprop(after m c ∗ Pipeline.owesWithin c 0 ((dats (F := F) m 0 c).bound () (Fin.last 1)) ∗ emp)
  rw [body_eq, WP, wp_deviceId, signal_eq, funext (target_eq c)]
  unfold before Pipeline.owesWithin
  iintro ⟨⟨⟨%K, HK⟩, H⟩, ⟨%W, -, HO⟩, -⟩
  ihave Hw := (body_spec m K c) $$ [HK H HO]
  · unfold bodyIn
    isplitl [HK]; · iexact HK
    isplitl [HO]; · iexists W; iexact HO
    iexact H
  iapply (wp_wand_r)
  isplitl [Hw]; · iexact Hw
  unfold bodyOut owing
  iintro %a ⟨⟨%W', HO⟩, H⟩
  isplitl [H]; · unfold after; iexact H
  isplitl [HO]
  · iexists W'
    isplitr; · ipureintro; exact fun _ _ => Or.inl trivial
    iexact HO
  iempintro

/-! ## Into the call and out of it -/

/-- The kernel's scratch buffers are the call's. -/
theorem scratch_eq (c : Dev nD) : (scratch c : sProp 𝕄) = Pipeline.scopedRest cfg0.spec c := by
  rw [scopedRest0_eq]
  unfold scratch some' own
  simp only [owns_whole]
  rfl

/-- The arguments and the result as the memory has them. -/
theorem arrays_eq (c : Dev nD) (X : S1536x1536.Idx → Elt F .f32) : (arrays m c X : sProp 𝕄)
    = iprop((((c : Thread nD τ).loc main_arg0) ↦{fullShare} m ((c : Thread nD τ).loc main_arg0))
        ∗ (((c : Thread nD τ).loc main_arg1) ↦{fullShare} m ((c : Thread nD τ).loc main_arg1))
        ∗ (((c : Thread nD τ).loc main_v1) ↦{fullShare} (X : Buf (Elt F) ((c : Thread nD τ).loc main_v1)))) := by
  unfold arrays own
  rw [owns_whole, owns_whole, owns_whole]
  rfl

/-- What a device brings to the call. -/
def brings (c : Dev nD) : sProp 𝕄 := iprop((∃ K, know m K) ∗ talk c ∗ (∃ X, arrays m c X) ∗ quiet c)

/-- What a device takes away: its buffers, the result among them, and its barrier's semaphore. -/
def takes (c : Dev nD) : sProp 𝕄 := iprop(arrays m c (outC m c) ∗ unscopedSems0 c)

/-- What a device has at the launch is what it brings to the region, -/
theorem bring (c : Dev nD) :
    iprop(Pipeline.unscopedRestP Pipeline.Prefetch.none cfg0.spec c (fun b => m ((c : Thread nD τ).loc b)) ∗ levAts L lv
        ∗ Pipeline.launchCred owed₀ c ∗ prngReg c (ρ c) ∗ rights m c)
      ⊢ |={Set.univ}=> iprop(brings m c ∗ emp) := by
  rw [Pipeline.unscopedRestP_none, unscopedRest0_eq]
  unfold rights kept
  rw [all_talk]
  iintro ⟨Hm, Hl, Hc, -, ⟨%K, HK, ⟨Hpb, Hps, Hpr⟩, ⟨Htb, Hts, Htr⟩, Hq⟩⟩
  ihave Hc := (credits (F := F) c) $$ Hc
  icases Hc with ⟨Hcb, Hcr⟩
  imodintro
  unfold brings
  isplitl
  · isplitl [HK Hl]
    · iexists K; unfold know; iframe ∗
    isplitl [Hpb Hps Hpr Htb Hts Htr Hcb Hcr]
    · unfold talk; iframe ∗
    isplitl [Hm]
    · iexists (m ((c : Thread nD τ).loc main_v1) : S1536x1536.Idx → Elt F .f32)
      rw [arrays_eq]; iexact Hm
    iexact Hq
  · iempintro

/-- with which, and its scratch, the body starts; -/
theorem enter (c : Dev nD) :
    iprop(brings m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, ← scratch_eq]
  unfold brings before
  iintro ⟨⟨HK, Ht, HX, Hq⟩, -, Hs⟩
  iframe ∗

/-- and what the body leaves is what the device takes away, its own semaphores at zero and its scratch. -/
theorem leave (c : Dev nD) : (dats m 0 c).Φ (Fin.last cfg0.N)
    ⊢ iprop(takes m c ∗ Pipeline.ownSems0 osem c ∗ Pipeline.scopedRest cfg0.spec c) := by
  rw [show (dats m 0 c).Φ (Fin.last cfg0.N) = after m c from rfl, ← scratch_eq]
  unfold takes after
  iintro ⟨Hz, Ha, Hs, Hq⟩
  ihave H := (sems_together c) $$ [Hz Hq]
  · iframe ∗
  icases H with ⟨Ho, Hu⟩
  iframe ∗

/-- What a device's memory holds in the end. -/
def final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outC m c)
  ∧ ∀ sm : SemLoc sig, sm.isScoped .tc = false → s.sem ((c : Thread nD τ), sm) = 0

/-- Held buffers and semaphores are the memory's. -/
theorem read_final (c : Dev nD) (s' : Phys nD τ sig (Elt F)) :
    iprop(takes m c ∗ emp ∗ SI s') ⊢ |={Set.univ}=> iprop(⌜final m c s'.mem⌝ ∗ SI s') := by
  unfold takes
  rw [arrays_eq]
  iintro ⟨⟨⟨HA, HB, HX⟩, Hu⟩, -, HSI⟩
  icombine HSI HA gives %hA
  icombine HSI HB gives %hB
  icombine HSI HX gives %hX
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hA, Buf.eq_of_forall_mem_univ hB, Buf.eq_of_forall_mem_univ hX⟩, hs⟩
  · iexact HSI

set_option maxRecDepth 8000 in
/-- From any memory, with every semaphore at zero, the machine runs to its end: the arguments are unchanged, every device's
    result is the sums', and every semaphore is at zero again. -/
theorem run_main : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outC m c)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := fun _ w => w.elim0)
    (hdistinct := winFacts0.arr_inj)
    (O₀ := owed₀) (howed₀ := fun _ => rfl) (howedN := fun _ => rfl)
    (L := L) (lv := lv) (hL := L_of_ne)
    (hwaits := fun c => Pipeline.cellsWaits_intro cfgs (dats m) () 0 c fun w _ _ => w.elim0)
    (G := dealt m) (G' := rights m) (u₀ := ghost₀)
    (hu₀ := by
      have hf := fund (F := F) m
      unfold ER at hf
      unfold ghost₀
      iintro Hu
      ihave H := (ownU_pair _ _) $$ Hu
      icases H with ⟨HP, HX⟩
      ihave H := (own_pair_emb embR _ _) $$ HX
      icases H with ⟨HX, -⟩
      imod hf $$ HX with HG
      imodintro
      isplitl [HP] <;> iassumption)
    (hglob := setup m)
    (hA := fun _ w => w.elim0) (hpf := fun _ k => k.elim0)
    (X := brings m) (Y := takes m) (Z := fun _ => iprop(emp))
    (hX := bring m ρ) (hin := enter m) (hout := leave m)
    (QY := final m) (hY := read_final m)
    (hQ := fun _ h hs => ⟨fun c => (h c).2.2.1, sem_eq_zero hs fun c => (h c).2.2.2⟩)

end Cert.Proof

end
-- ==== Proof.Value.lean ====
module

public import proofs.«01_k».proof.Proof.Whole
public import proofs.«01_k».proof.Proof.Gen.ReferenceIdeal.Run
public import Idealize.ShloMosaic.Lib.StackMember
public import Idealize.ShloMosaic.Lib.Layout
public import Idealize.ShloMosaic.Lib.Pipeline.Value

/-!
# The sum is the product

Over the extended reals a device's partial product is the part of `A @ B` that its half of the contracted axis
contributes. Its peer holds the same columns of `B` and the other half of that axis, so the sum of the two
partial products is the whole of `A @ B` at the device's columns.
-/

@[expose] public section

noncomputable section

namespace Cert.Proof

open Cert.KernelIdeal Cert.KernelIdeal.Gen
open Idealize.ShloMosaic
open Idealize.ShloMosaic.TcCoe
open Idealize.ShloMosaic.ValueIdx Idealize.ShloMosaic.StackMember

/-! ## The mathematics -/

section Half
variable (A : (⟨2, ![1536, 1536]⟩ : Shape).Idx → EReal) (B : (⟨2, ![1536, 3072]⟩ : Shape).Idx → EReal)

/-- Position `k` of half `h` of the contracted axis. -/
def at' (h : Fin 2) (k : Fin 768) : Fin 1536 := ⟨h.val * 768 + k.val, by omega⟩

/-- What half `h` of the contracted axis contributes to the product at row `r` and column `l`. -/
def half (h : Fin 2) (r : Fin 1536) (l : Fin 3072) : EReal := ∑ k : Fin 768, A (ix2 r (at' h k)) * B (ix2 (at' h k) l)

/-- The product is one half's contribution and the other's, whichever is named first. -/
theorem half_add_half (h h' : Fin 2) (hne : h ≠ h') (r : Fin 1536) (l : Fin 3072) :
    half A B h r l + half A B h' r l = ∑ k : Fin 1536, A (ix2 r k) * B (ix2 k l) := by
  have two : half A B 0 r l + half A B 1 r l = ∑ k : Fin 1536, A (ix2 r k) * B (ix2 k l) := by
    rw [Fin.sum_univ_add (a := 768) (b := 768) fun k : Fin 1536 => A (ix2 r k) * B (ix2 k l)]
    refine congrArg₂ (· + ·) (Finset.sum_congr rfl fun k _ => ?_) (Finset.sum_congr rfl fun k _ => ?_)
    · rw [show at' 0 k = Fin.castAdd 768 k from Fin.ext (by show 0 * 768 + k.val = k.val; omega)]
    · rw [show at' 1 k = Fin.natAdd 768 k from Fin.ext (by show 1 * 768 + k.val = 768 + k.val; omega)]
  match h, h', hne with
  | 0, 1, _ => exact two
  | 1, 0, _ => exact (add_comm _ _).trans two
  | 0, 0, hne => exact absurd rfl hne
  | 1, 1, hne => exact absurd rfl hne

end Half

/-! ## What the kernel computes -/

variable (m : (ℓ : Loc nD τ sig) → Buf (Elt Ideal) ℓ)

/-- Row `r` of chunk `i`. -/
def row (i : Fin 8) (r : Fin 192) : Fin 1536 := ⟨192 * i.val + r.val, by omega⟩

/-- An index of chunk `i` of a block of `A`, in the block. -/
theorem aR_emb (i : Fin 8) (r : Fin 192) (k : Fin 768) : (aR i).emb (ix2 r k) = ix2 (row i r) k := by
  funext b; apply Fin.ext; rw [Rect.emb_apply]
  match b with
  | ⟨0, _⟩ => show 192 * i.val + 1 * r.val = 192 * i.val + r.val; omega
  | ⟨1, _⟩ => show 0 + 1 * k.val = k.val; omega

/-- An index of chunk `i` of a product, in the product. -/
theorem rR_emb (i : Fin 8) (r : Fin 192) (l : Fin 1536) : (rR i).emb (ix2 r l) = ix2 (row i r) l := by
  funext b; apply Fin.ext; rw [Rect.emb_apply]
  match b with
  | ⟨0, _⟩ => show 192 * i.val + 1 * r.val = 192 * i.val + r.val; omega
  | ⟨1, _⟩ => show 0 + 1 * l.val = l.val; omega

/-- A chunk of a partial product, at an index: the sum over the device's part of the contracted axis. -/
theorem pC_apply (c : Dev nD) (i : Fin 8) (r : Fin 192) (l : Fin 1536) :
    pC m c i (ix2 r l) = ∑ k : Fin 768, (aC m c (ix2 (row i r) k) : EReal) * bC m c (ix2 k l) := by
  have h : pC m c i = Host.dotGeneral (F := Ideal) (φ₁ := .bf16) (φ₂ := .bf16) (DotDims.plain 192 768 1536) none
      (fun j => aC m c ((aR i).emb j)) (bC m c) := by
    unfold pC k0_pay2 k0_pay1
    dsimp only
    rw [shapeCast_self, shapeCast_self, matmul_zero_eq_dotGeneral]
    rfl
  rw [h]
  refine (dotGeneral_plain_apply (φ₁ := .bf16) (φ₂ := .bf16) none _ _ r l).trans (Finset.sum_congr rfl fun k _ => ?_)
  rw [aR_emb]

/-- A chunk of the sum, at an index: the device's own partial product and its peer's. -/
theorem sC_apply (c : Dev nD) (i : Fin 8) (j : S192x1536.Idx) :
    sC m c i j = (pC m c i j : EReal) + pC m (peer c) i j := by
  unfold sC k0_pay11
  rw [shapeCast_self]
  rfl

/-! ## Where the blocks lie -/

/-- The half of the contracted axis device `c` holds. -/
def dep (c : Dev nD) : Fin 2 := ⟨c.val / 2 % 2, Nat.mod_lt _ (by decide)⟩

/-- Column `l` of device `c`'s columns. -/
def col (c : Dev nD) (l : Fin 1536) : Fin 3072 := ⟨c.val % 2 * 1536 + l.val, by have := Nat.mod_lt c.val (y := 2) (by decide); omega⟩

/-- The peer holds the other half of the contracted axis, -/
theorem dep_peer (c : Dev nD) : dep c ≠ dep (peer c) := by revert c; decide

/-- and the same columns. -/
theorem col_peer (c : Dev nD) (l : Fin 1536) : col (peer c) l = col c l := by
  refine Fin.ext (congrArg (· * 1536 + l.val) ?_)
  revert c; decide

/-- A device's block of `A`: all rows, and its half of the contracted axis. -/
theorem block_a (c : Dev nD) (A : (⟨2, ![1536, 1536]⟩ : Shape).Idx → EReal) (r : Fin 1536) (k : Fin 768) :
    (Layout.blockN ⟨2, ![1536, 768]⟩ ⟨2, ![1536, 1536]⟩ (Layout.meshBlock [2, 2] ![[], [0]] c) A) (ix2 r k)
      = A (ix2 r (at' (dep c) k)) := by
  rw [Layout.blockN_apply]; congr 1; funext b; apply Fin.ext; rw [Layout.TilesN.idx_val]
  match b with
  | ⟨0, _⟩ => show 0 * 1536 + r.val = r.val; omega
  | ⟨1, _⟩ => show (c.val / 2 % 2 * 1 + 0) * 768 + k.val = c.val / 2 % 2 * 768 + k.val; omega

/-- A device's block of `B`: its half of the contracted axis, and its columns. -/
theorem block_b (c : Dev nD) (B : (⟨2, ![1536, 3072]⟩ : Shape).Idx → EReal) (k : Fin 768) (l : Fin 1536) :
    (Layout.blockN ⟨2, ![768, 1536]⟩ ⟨2, ![1536, 3072]⟩ (Layout.meshBlock [2, 2] ![[0], [1]] c) B) (ix2 k l)
      = B (ix2 (at' (dep c) k) (col c l)) := by
  rw [Layout.blockN_apply]; congr 1; funext b; apply Fin.ext; rw [Layout.TilesN.idx_val]
  match b with
  | ⟨0, _⟩ => show (c.val / 2 % 2 * 1 + 0) * 768 + k.val = c.val / 2 % 2 * 768 + k.val; omega
  | ⟨1, _⟩ => show (c.val / 1 % 2 * 1 + 0) * 1536 + l.val = c.val % 2 * 1536 + l.val; rw [Nat.div_one]; omega

/-- A device's block of the result: all rows, and its columns. -/
theorem block_out (c : Dev nD) (R : (⟨2, ![1536, 3072]⟩ : Shape).Idx → EReal) (r : Fin 1536) (l : Fin 1536) :
    (Layout.blockN ⟨2, ![1536, 1536]⟩ ⟨2, ![1536, 3072]⟩ (Layout.meshBlock [2, 2] ![[], [1]] c) R) (ix2 r l)
      = R (ix2 r (col c l)) := by
  rw [Layout.blockN_apply]; congr 1; funext b; apply Fin.ext; rw [Layout.TilesN.idx_val]
  match b with
  | ⟨0, _⟩ => show 0 * 1536 + r.val = r.val; omega
  | ⟨1, _⟩ => show (c.val / 1 % 2 * 1 + 0) * 1536 + l.val = c.val % 2 * 1536 + l.val; rw [Nat.div_one]; omega

/-! ## The two together -/

section Together
variable (A : (⟨2, ![1536, 1536]⟩ : Shape).Idx → EReal) (B : (⟨2, ![1536, 3072]⟩ : Shape).Idx → EReal)
variable (ha : ∀ c : Dev nD, aC m c = Layout.blockN ⟨2, ![1536, 768]⟩ ⟨2, ![1536, 1536]⟩ (Layout.meshBlock [2, 2] ![[], [0]] c) A)
variable (hb : ∀ c : Dev nD, bC m c = Layout.blockN ⟨2, ![768, 1536]⟩ ⟨2, ![1536, 3072]⟩ (Layout.meshBlock [2, 2] ![[0], [1]] c) B)
include ha hb

/-- A device's partial product is what its half of the contracted axis contributes. -/
theorem pC_half (c : Dev nD) (i : Fin 8) (r : Fin 192) (l : Fin 1536) :
    pC m c i (ix2 r l) = half A B (dep c) (row i r) (col c l) := by
  rw [pC_apply]
  refine Finset.sum_congr rfl fun k _ => ?_
  rw [ha, hb, block_a, block_b]

/-- What a device writes is its block of the product of the whole arrays. -/
theorem outC_product (c : Dev nD) :
    outC m c = Layout.blockN ⟨2, ![1536, 1536]⟩ ⟨2, ![1536, 3072]⟩ (Layout.meshBlock [2, 2] ![[], [1]] c)
      (Host.dotGeneral (F := Ideal) (φ₁ := .f32) (φ₂ := .f32) (DotDims.plain 1536 1536 3072) none A B) := by
  funext x
  obtain ⟨i, j, rfl⟩ := tiling_rR.index x
  obtain ⟨r, l, rfl⟩ : ∃ (r : Fin 192) (l : Fin 1536), j = ix2 r l := ⟨j 0, j 1, eq_ix2 j⟩
  rw [outC_emb, sC_apply, pC_half m A B ha hb, pC_half m A B ha hb, col_peer, half_add_half A B _ _ (dep_peer c), rR_emb,
    block_out]
  exact (dotGeneral_plain_apply (φ₁ := .f32) (φ₂ := .f32) none A B (row i r) (col c l)).symm

end Together

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel at its own float formats terminates, leaves its arguments as they were and every semaphore at zero: its text
    is that of the ideal program, whose run is proved over any float values. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The kernel over the extended reals does too. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference leaves its arguments as they were, and has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the extended reals each device ends with its block of the reference's product of the whole arrays. -/
theorem algebraic : Cert.algebraic_KernelIdeal_ReferenceIdeal := fun m ρ m' ρ' _ hin =>
  ⟨_, (θ_run Cert.KernelIdeal.defs _ _).mono
      (fun _ h c => ⟨(h.1 c).2.2.trans (outC_product m _ _ (fun c => (hin c).1) (fun c => (hin c).2) c), (h.1 c).1, (h.1 c).2.1⟩)
      (run_main (F := Ideal) m ρ),
    (θ_run Cert.ReferenceIdeal.defs _ _).mono (fun _ h => h 0) (Cert.ReferenceIdeal.Value.run (F := Ideal) m' ρ')⟩

/-- Everything that is claimed. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
